-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_perm_in_range [hPre_perm_in_range : Cert.Pre_perm_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_in_range [hPre_perm_in_range : Cert.Pre_perm_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_perm_in_range [hKernelIdeal : Cert.KernelIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_perm_in_range [hReferenceIdeal : Cert.ReferenceIdeal.Facts] [hPre_perm_in_range : Cert.Pre_perm_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S40x2x512 Cert.KernelIdeal.S40x1x512
  ∧ IdealRules.bf16_pair.PackStatement Cert.KernelIdeal.S40x512
  ∧ IdealRules.bf16_pair.Statement Cert.KernelIdeal.S40x2x512 Cert.KernelIdeal.S40x1x512
  ∧ IdealRules.bf16_pair.PackStatement Cert.KernelIdeal.S20x512
  ∧ IdealRules.bf16_pair.Statement Cert.KernelIdeal.S20x2x512 Cert.KernelIdeal.S20x1x512
  ∧ IdealRules.bf16_pair.PackStatement Cert.KernelIdeal.S64x256
  ∧ IdealRules.bf16_pair.Statement Cert.KernelIdeal.S128x256 Cert.KernelIdeal.S64x256
  ∧ IdealRules.bf16_pair.Statement Cert.KernelIdeal.S1x2x256 Cert.KernelIdeal.S1x1x256
  ∧ IdealRules.bf16_pair.Statement Cert.KernelIdeal.S2x256 Cert.KernelIdeal.S1x256

def algebraic_KernelIdeal_ReferenceIdeal_pre_perm_in_range [hKernelIdeal : Cert.KernelIdeal.Facts] [hReferenceIdeal : Cert.ReferenceIdeal.Facts] [hPre_perm_in_range : Cert.Pre_perm_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_perm_in_range : Cert.Pre_perm_in_range.Facts),
    quiescent_Kernel (hKernel := hKernel)
    ∧ quiescent_KernelIdeal (hKernelIdeal := hKernelIdeal)
    ∧ quiescent_KernelIdeal_pre_perm_in_range (hKernelIdeal := hKernelIdeal) (hPre_perm_in_range := hPre_perm_in_range)
    ∧ quiescent_ReferenceIdeal (hReferenceIdeal := hReferenceIdeal)
    ∧ quiescent_ReferenceIdeal_pre_perm_in_range (hReferenceIdeal := hReferenceIdeal) (hPre_perm_in_range := hPre_perm_in_range)
    ∧ preserves_Kernel_KernelIdeal
    ∧ algebraic_KernelIdeal_ReferenceIdeal_pre_perm_in_range (hKernelIdeal := hKernelIdeal) (hReferenceIdeal := hReferenceIdeal) (hPre_perm_in_range := hPre_perm_in_range)
-- ==== Pre_perm_in_range.lean ====
abbrev S8x1x5120 : Shape := ⟨3, ![8, 1, 5120]⟩
abbrev S2560x17920 : Shape := ⟨2, ![2560, 17920]⟩
abbrev S40x17920 : Shape := ⟨2, ![40, 17920]⟩
abbrev S20x17920 : Shape := ⟨2, ![20, 17920]⟩
abbrev S5120 : Shape := ⟨1, ![5120]⟩
abbrev S_ : Shape := ⟨0, ![]⟩

class Facts : Prop where
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : FVec F S8x1x5120 .bf16) (main_arg1 : IVec S2560x17920 8) (main_arg2 : FVec F S40x17920 .bf16) (main_arg3 : IVec S20x17920 8) (main_arg4 : IVec S5120 32) (main_arg5 : IVec S5120 32) : IVec S_ 1 :=
  let main_c : IVec S_ 32 := constantI S_ 32 0#32
  let main_v0 : IVec S5120 32 := broadcastInDim S5120 ![] bcast_S_S5120 main_c
  let main_v1 : IVec S5120 1 := cmpi .sge main_arg5 main_v0
  let main_c_0 : IVec S_ 32 := constantI S_ 32 5120#32
  let main_v2 : IVec S5120 32 := broadcastInDim S5120 ![] bcast_S_S5120 main_c_0
  let main_v3 : IVec S5120 1 := cmpi .slt main_arg5 main_v2
  let main_v4 : IVec S5120 1 := andi main_v1 main_v3
  let main_c_1 : IVec S_ 1 := constantI S_ 1 1#1
  let main_v5 : IVec S_ 1 := (fun x v => Host.reduce IntOp.andi x v reducesTo_S5120_S_d0 h_S_) main_v4 main_c_1
  main_v5
-- ==== Kernel.lean ====
abbrev S8x1x5120 : Shape := ⟨3, ![8, 1, 5120]⟩
abbrev S2560x17920 : Shape := ⟨2, ![2560, 17920]⟩
abbrev S40x17920 : Shape := ⟨2, ![40, 17920]⟩
abbrev S20x17920 : Shape := ⟨2, ![20, 17920]⟩
abbrev S5120 : Shape := ⟨1, ![5120]⟩
abbrev S8x5120 : Shape := ⟨2, ![8, 5120]⟩
abbrev S40x128 : Shape := ⟨2, ![40, 128]⟩
abbrev S8x17920 : Shape := ⟨2, ![8, 17920]⟩
abbrev S35x2560x512 : Shape := ⟨3, ![35, 2560, 512]⟩
abbrev S40x512 : Shape := ⟨2, ![40, 512]⟩
abbrev S35 : Shape := ⟨1, ![35]⟩
abbrev S_ : Shape := ⟨0, ![]⟩
abbrev S1 : Shape := ⟨1, ![1]⟩
abbrev S1x2560x512 : Shape := ⟨3, ![1, 2560, 512]⟩
abbrev S2560x512 : Shape := ⟨2, ![2560, 512]⟩
abbrev S8x128 : Shape := ⟨2, ![8, 128]⟩
abbrev S16x128 : Shape := ⟨2, ![16, 128]⟩
abbrev S1x128 : Shape := ⟨2, ![1, 128]⟩
abbrev S16x128x1 : Shape := ⟨3, ![16, 128, 1]⟩
abbrev S20x512 : Shape := ⟨2, ![20, 512]⟩
abbrev S8x256 : Shape := ⟨2, ![8, 256]⟩
abbrev S1x64x256 : Shape := ⟨3, ![1, 64, 256]⟩
abbrev S64x256 : Shape := ⟨2, ![64, 256]⟩
abbrev S128x256 : Shape := ⟨2, ![128, 256]⟩
abbrev S1x256 : Shape := ⟨2, ![1, 256]⟩
abbrev S2x256 : Shape := ⟨2, ![2, 256]⟩
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x1x5120, .bf16⟩
  | .hbm, ⟨1, _⟩ => ⟨S2560x17920, .i8⟩
  | .hbm, ⟨2, _⟩ => ⟨S40x17920, .bf16⟩
  | .hbm, ⟨3, _⟩ => ⟨S20x17920, .i8⟩
  | .hbm, ⟨4, _⟩ => ⟨S5120, .i32⟩
  | .hbm, ⟨5, _⟩ => ⟨S5120, .i32⟩
  | .hbm, ⟨6, _⟩ => ⟨S8x5120, .bf16⟩
  | .hbm, ⟨7, _⟩ => ⟨S40x128, .i32⟩
  | .hbm, ⟨8, _⟩ => ⟨S8x17920, .bf16⟩
  | .local _ .vmem, ⟨0, _⟩ => ⟨S8x5120, .bf16⟩
  | .local _ .vmem, ⟨1, _⟩ => ⟨S40x128, .i32⟩
  | .local _ .vmem, ⟨2, _⟩ => ⟨S8x17920, .bf16⟩
  | .local _ .vmem, ⟨3, _⟩ => ⟨S8x5120, .bf16⟩
  | .local _ .vmem, ⟨4, _⟩ => ⟨S35x2560x512, .i8⟩
  | .local _ .vmem, ⟨5, _⟩ => ⟨S40x17920, .bf16⟩
  | .local _ .vmem, ⟨6, _⟩ => ⟨S20x17920, .i8⟩
  | .local _ .vmem, ⟨7, _⟩ => ⟨S40x512, .i32⟩
  | .local _ .vmem, ⟨8, _⟩ => ⟨S40x512, .i32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c35_i32 : BitVec 32 := 35#32
  let v0 : BitVec 32 := Scalar.addi c0_i32 c35_i32
  let c1_i32 : BitVec 32 := 1#32
  ⟨c0_i32, v0, c1_i32⟩
def k0_mult1 (k0_t1 : Fin k0_t1_loop.trips) : BitVec 32 :=
  let c0_i32_2667 : BitVec 32 := 0#32
  let c0_i32 : BitVec 32 := 0#32
  let c1_i32 : BitVec 32 := 1#32
  let arg15 : BitVec 32 := Scf.iv c0_i32 c1_i32 k0_t1
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  v9747
def k0_off1 (k0_t1 : Fin k0_t1_loop.trips) : Fin 1 → Nat :=
  let c0_i32_2667 : BitVec 32 := 0#32
  let c0_i32 : BitVec 32 := 0#32
  let c1_i32 : BitVec 32 := 1#32
  let arg15 : BitVec 32 := Scf.iv c0_i32 c1_i32 k0_t1
  let c1_i32_2666 : BitVec 32 := 1#32
  let v9745 : BitVec 32 := Scalar.muli arg15 c1_i32_2666
  let v9746 : BitVec 32 := Scalar.addi c0_i32_2667 v9745
  ![v9746.toNat]
def k0_off2 (k0_t1 : Fin k0_t1_loop.trips) : Fin 3 → Nat :=
  let c0_i32_2667 : BitVec 32 := 0#32
  let c0_i32 : BitVec 32 := 0#32
  let c1_i32 : BitVec 32 := 1#32
  let arg15 : BitVec 32 := Scf.iv c0_i32 c1_i32 k0_t1
  let c1_i32_2666 : BitVec 32 := 1#32
  let v9745 : BitVec 32 := Scalar.muli arg15 c1_i32_2666
  let v9746 : BitVec 32 := Scalar.addi c0_i32_2667 v9745
  let c0_i32_2668 : BitVec 32 := 0#32
  let c0_i32_2669 : BitVec 32 := 0#32
  ![v9746.toNat, 0, 0]
def k0_off3 (k0_t1 : Fin k0_t1_loop.trips) : Fin 2 → Nat :=
  let c0_i32_2670 : BitVec 32 := 0#32
  let c0_i32_2667 : BitVec 32 := 0#32
  let c0_i32 : BitVec 32 := 0#32
  let c1_i32 : BitVec 32 := 1#32
  let arg15 : BitVec 32 := Scf.iv c0_i32 c1_i32 k0_t1
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  let v9748 : BitVec 32 := v9747
  ![0, v9748.toNat]
@[reducible] def k0_t2_loop : Scf.Loop 32 :=
  let c0_i32_2662 : BitVec 32 := 0#32
  let c35_i32_2663 : BitVec 32 := 35#32
  let v9744 : BitVec 32 := Scalar.addi c0_i32_2662 c35_i32_2663
  let c1_i32_2664 : BitVec 32 := 1#32
  ⟨c0_i32_2662, v9744, c1_i32_2664⟩
def k0_mult2 (k0_t2 : Fin k0_t2_loop.trips) : BitVec 32 :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  v9747
def k0_off4 (k0_t2 : Fin k0_t2_loop.trips) : Fin 2 → Nat :=
  let c0_2668 : Index := 0#32
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  let v9748 : BitVec 32 := v9747
  let v9749 : Index := Scalar.indexCast v9748
  ![0, v9749.toNat]
def k0_off5 (k0_t2 : Fin k0_t2_loop.trips) : Fin 2 → Nat :=
  let c0_2671 : Index := 0#32
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  let v9748 : BitVec 32 := v9747
  let v9756 : Index := Scalar.indexCast v9748
  ![0, v9756.toNat]
def k0_mult3 (k0_t2 : Fin k0_t2_loop.trips) : BitVec 32 :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32_2678 : BitVec 32 := 512#32
  let v9773 : BitVec 32 := Scalar.muli v9746 c512_i32_2678
  v9773
def k0_off6 (k0_t2 : Fin k0_t2_loop.trips) : Fin 1 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  ![v9746.toNat]
def k0_off7 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c0_i32_2679 : BitVec 32 := 0#32
  let c0_i32_2680 : BitVec 32 := 0#32
  ![v9746.toNat, 0, 0]
def k0_off8 (k0_t2 : Fin k0_t2_loop.trips) : Fin 2 → Nat :=
  let c0_i32_2681 : BitVec 32 := 0#32
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32_2678 : BitVec 32 := 512#32
  let v9773 : BitVec 32 := Scalar.muli v9746 c512_i32_2678
  let v9774 : BitVec 32 := v9773
  ![0, v9774.toNat]
def k0_off9 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9781 : Index := Scalar.indexCast v9746
  let c0_2683 : Index := 0#32
  let c0_2684 : Index := 0#32
  ![v9781.toNat, 0, 0]
def k0_off10 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9805 : Index := Scalar.indexCast v9746
  let c64 : Index := 64#32
  let c0_2691 : Index := 0#32
  ![v9805.toNat, 64, 0]
def k0_off11 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9833 : Index := Scalar.indexCast v9746
  let c128_2701 : Index := 128#32
  let c0_2702 : Index := 0#32
  ![v9833.toNat, 128, 0]
def k0_off12 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9857 : Index := Scalar.indexCast v9746
  let c192 : Index := 192#32
  let c0_2709 : Index := 0#32
  ![v9857.toNat, 192, 0]
def k0_off13 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9885 : Index := Scalar.indexCast v9746
  let c256_2719 : Index := 256#32
  let c0_2720 : Index := 0#32
  ![v9885.toNat, 256, 0]
def k0_off14 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9909 : Index := Scalar.indexCast v9746
  let c320 : Index := 320#32
  let c0_2727 : Index := 0#32
  ![v9909.toNat, 320, 0]
def k0_off15 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9937 : Index := Scalar.indexCast v9746
  let c384_2737 : Index := 384#32
  let c0_2738 : Index := 0#32
  ![v9937.toNat, 384, 0]
def k0_off16 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9961 : Index := Scalar.indexCast v9746
  let c448 : Index := 448#32
  let c0_2745 : Index := 0#32
  ![v9961.toNat, 448, 0]
def k0_off17 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v9989 : Index := Scalar.indexCast v9746
  let c512_2755 : Index := 512#32
  let c0_2756 : Index := 0#32
  ![v9989.toNat, 512, 0]
def k0_off18 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10013 : Index := Scalar.indexCast v9746
  let c576 : Index := 576#32
  let c0_2763 : Index := 0#32
  ![v10013.toNat, 576, 0]
def k0_off19 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10041 : Index := Scalar.indexCast v9746
  let c640_2773 : Index := 640#32
  let c0_2774 : Index := 0#32
  ![v10041.toNat, 640, 0]
def k0_off20 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10065 : Index := Scalar.indexCast v9746
  let c704 : Index := 704#32
  let c0_2781 : Index := 0#32
  ![v10065.toNat, 704, 0]
def k0_off21 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10093 : Index := Scalar.indexCast v9746
  let c768_2791 : Index := 768#32
  let c0_2792 : Index := 0#32
  ![v10093.toNat, 768, 0]
def k0_off22 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10117 : Index := Scalar.indexCast v9746
  let c832 : Index := 832#32
  let c0_2799 : Index := 0#32
  ![v10117.toNat, 832, 0]
def k0_off23 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10145 : Index := Scalar.indexCast v9746
  let c896_2809 : Index := 896#32
  let c0_2810 : Index := 0#32
  ![v10145.toNat, 896, 0]
def k0_off24 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10169 : Index := Scalar.indexCast v9746
  let c960 : Index := 960#32
  let c0_2817 : Index := 0#32
  ![v10169.toNat, 960, 0]
def k0_off25 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10197 : Index := Scalar.indexCast v9746
  let c1024_2827 : Index := 1024#32
  let c0_2828 : Index := 0#32
  ![v10197.toNat, 1024, 0]
def k0_off26 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10221 : Index := Scalar.indexCast v9746
  let c1088 : Index := 1088#32
  let c0_2835 : Index := 0#32
  ![v10221.toNat, 1088, 0]
def k0_off27 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10249 : Index := Scalar.indexCast v9746
  let c1152_2845 : Index := 1152#32
  let c0_2846 : Index := 0#32
  ![v10249.toNat, 1152, 0]
def k0_off28 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10273 : Index := Scalar.indexCast v9746
  let c1216 : Index := 1216#32
  let c0_2853 : Index := 0#32
  ![v10273.toNat, 1216, 0]
def k0_off29 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10301 : Index := Scalar.indexCast v9746
  let c1280_2863 : Index := 1280#32
  let c0_2864 : Index := 0#32
  ![v10301.toNat, 1280, 0]
def k0_off30 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10325 : Index := Scalar.indexCast v9746
  let c1344 : Index := 1344#32
  let c0_2871 : Index := 0#32
  ![v10325.toNat, 1344, 0]
def k0_off31 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10353 : Index := Scalar.indexCast v9746
  let c1408_2881 : Index := 1408#32
  let c0_2882 : Index := 0#32
  ![v10353.toNat, 1408, 0]
def k0_off32 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10377 : Index := Scalar.indexCast v9746
  let c1472 : Index := 1472#32
  let c0_2889 : Index := 0#32
  ![v10377.toNat, 1472, 0]
def k0_off33 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10405 : Index := Scalar.indexCast v9746
  let c1536_2899 : Index := 1536#32
  let c0_2900 : Index := 0#32
  ![v10405.toNat, 1536, 0]
def k0_off34 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10429 : Index := Scalar.indexCast v9746
  let c1600 : Index := 1600#32
  let c0_2907 : Index := 0#32
  ![v10429.toNat, 1600, 0]
def k0_off35 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10457 : Index := Scalar.indexCast v9746
  let c1664_2917 : Index := 1664#32
  let c0_2918 : Index := 0#32
  ![v10457.toNat, 1664, 0]
def k0_off36 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10481 : Index := Scalar.indexCast v9746
  let c1728 : Index := 1728#32
  let c0_2925 : Index := 0#32
  ![v10481.toNat, 1728, 0]
def k0_off37 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10509 : Index := Scalar.indexCast v9746
  let c1792_2935 : Index := 1792#32
  let c0_2936 : Index := 0#32
  ![v10509.toNat, 1792, 0]
def k0_off38 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10533 : Index := Scalar.indexCast v9746
  let c1856 : Index := 1856#32
  let c0_2943 : Index := 0#32
  ![v10533.toNat, 1856, 0]
def k0_off39 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10561 : Index := Scalar.indexCast v9746
  let c1920_2953 : Index := 1920#32
  let c0_2954 : Index := 0#32
  ![v10561.toNat, 1920, 0]
def k0_off40 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10585 : Index := Scalar.indexCast v9746
  let c1984 : Index := 1984#32
  let c0_2961 : Index := 0#32
  ![v10585.toNat, 1984, 0]
def k0_off41 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10613 : Index := Scalar.indexCast v9746
  let c2048_2971 : Index := 2048#32
  let c0_2972 : Index := 0#32
  ![v10613.toNat, 2048, 0]
def k0_off42 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10637 : Index := Scalar.indexCast v9746
  let c2112 : Index := 2112#32
  let c0_2979 : Index := 0#32
  ![v10637.toNat, 2112, 0]
def k0_off43 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10665 : Index := Scalar.indexCast v9746
  let c2176_2989 : Index := 2176#32
  let c0_2990 : Index := 0#32
  ![v10665.toNat, 2176, 0]
def k0_off44 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10689 : Index := Scalar.indexCast v9746
  let c2240 : Index := 2240#32
  let c0_2997 : Index := 0#32
  ![v10689.toNat, 2240, 0]
def k0_off45 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10717 : Index := Scalar.indexCast v9746
  let c2304_3007 : Index := 2304#32
  let c0_3008 : Index := 0#32
  ![v10717.toNat, 2304, 0]
def k0_off46 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10741 : Index := Scalar.indexCast v9746
  let c2368 : Index := 2368#32
  let c0_3015 : Index := 0#32
  ![v10741.toNat, 2368, 0]
def k0_off47 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10769 : Index := Scalar.indexCast v9746
  let c2432_3025 : Index := 2432#32
  let c0_3026 : Index := 0#32
  ![v10769.toNat, 2432, 0]
def k0_off48 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10793 : Index := Scalar.indexCast v9746
  let c2496 : Index := 2496#32
  let c0_3033 : Index := 0#32
  ![v10793.toNat, 2496, 0]
def k0_mult4 (k0_t2 : Fin k0_t2_loop.trips) : BitVec 32 :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  let v9748 : BitVec 32 := v9747
  let c0_i32_3043 : BitVec 32 := 0#32
  let v10822 : BitVec 32 := Scalar.addi v9748 c0_i32_3043
  v10822
def k0_off49 (k0_t2 : Fin k0_t2_loop.trips) (c0_i32_3043 : BitVec 32) : Fin 2 → Nat :=
  let c0_3044 : Index := 0#32
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  let v9748 : BitVec 32 := v9747
  let v10822 : BitVec 32 := Scalar.addi v9748 c0_i32_3043
  let v10823 : BitVec 32 := v10822
  let v10824 : Index := Scalar.indexCast v10823
  ![0, v10824.toNat]
def k0_off50 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10827 : Index := Scalar.indexCast v9746
  let c0_3046 : Index := 0#32
  let c256_3047 : Index := 256#32
  ![v10827.toNat, 0, 256]
def k0_off51 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10851 : Index := Scalar.indexCast v9746
  let c64_3054 : Index := 64#32
  let c256_3055 : Index := 256#32
  ![v10851.toNat, 64, 256]
def k0_off52 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10879 : Index := Scalar.indexCast v9746
  let c128_3065 : Index := 128#32
  let c256_3066 : Index := 256#32
  ![v10879.toNat, 128, 256]
def k0_off53 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10903 : Index := Scalar.indexCast v9746
  let c192_3073 : Index := 192#32
  let c256_3074 : Index := 256#32
  ![v10903.toNat, 192, 256]
def k0_off54 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10931 : Index := Scalar.indexCast v9746
  let c256_3084 : Index := 256#32
  let c256_3085 : Index := 256#32
  ![v10931.toNat, 256, 256]
def k0_off55 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10955 : Index := Scalar.indexCast v9746
  let c320_3092 : Index := 320#32
  let c256_3093 : Index := 256#32
  ![v10955.toNat, 320, 256]
def k0_off56 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v10983 : Index := Scalar.indexCast v9746
  let c384_3103 : Index := 384#32
  let c256_3104 : Index := 256#32
  ![v10983.toNat, 384, 256]
def k0_off57 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11007 : Index := Scalar.indexCast v9746
  let c448_3111 : Index := 448#32
  let c256_3112 : Index := 256#32
  ![v11007.toNat, 448, 256]
def k0_off58 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11035 : Index := Scalar.indexCast v9746
  let c512_3122 : Index := 512#32
  let c256_3123 : Index := 256#32
  ![v11035.toNat, 512, 256]
def k0_off59 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11059 : Index := Scalar.indexCast v9746
  let c576_3130 : Index := 576#32
  let c256_3131 : Index := 256#32
  ![v11059.toNat, 576, 256]
def k0_off60 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11087 : Index := Scalar.indexCast v9746
  let c640_3141 : Index := 640#32
  let c256_3142 : Index := 256#32
  ![v11087.toNat, 640, 256]
def k0_off61 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11111 : Index := Scalar.indexCast v9746
  let c704_3149 : Index := 704#32
  let c256_3150 : Index := 256#32
  ![v11111.toNat, 704, 256]
def k0_off62 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11139 : Index := Scalar.indexCast v9746
  let c768_3160 : Index := 768#32
  let c256_3161 : Index := 256#32
  ![v11139.toNat, 768, 256]
def k0_off63 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11163 : Index := Scalar.indexCast v9746
  let c832_3168 : Index := 832#32
  let c256_3169 : Index := 256#32
  ![v11163.toNat, 832, 256]
def k0_off64 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11191 : Index := Scalar.indexCast v9746
  let c896_3179 : Index := 896#32
  let c256_3180 : Index := 256#32
  ![v11191.toNat, 896, 256]
def k0_off65 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11215 : Index := Scalar.indexCast v9746
  let c960_3187 : Index := 960#32
  let c256_3188 : Index := 256#32
  ![v11215.toNat, 960, 256]
def k0_off66 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11243 : Index := Scalar.indexCast v9746
  let c1024_3198 : Index := 1024#32
  let c256_3199 : Index := 256#32
  ![v11243.toNat, 1024, 256]
def k0_off67 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11267 : Index := Scalar.indexCast v9746
  let c1088_3206 : Index := 1088#32
  let c256_3207 : Index := 256#32
  ![v11267.toNat, 1088, 256]
def k0_off68 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11295 : Index := Scalar.indexCast v9746
  let c1152_3217 : Index := 1152#32
  let c256_3218 : Index := 256#32
  ![v11295.toNat, 1152, 256]
def k0_off69 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11319 : Index := Scalar.indexCast v9746
  let c1216_3225 : Index := 1216#32
  let c256_3226 : Index := 256#32
  ![v11319.toNat, 1216, 256]
def k0_off70 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11347 : Index := Scalar.indexCast v9746
  let c1280_3236 : Index := 1280#32
  let c256_3237 : Index := 256#32
  ![v11347.toNat, 1280, 256]
def k0_off71 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11371 : Index := Scalar.indexCast v9746
  let c1344_3244 : Index := 1344#32
  let c256_3245 : Index := 256#32
  ![v11371.toNat, 1344, 256]
def k0_off72 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11399 : Index := Scalar.indexCast v9746
  let c1408_3255 : Index := 1408#32
  let c256_3256 : Index := 256#32
  ![v11399.toNat, 1408, 256]
def k0_off73 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11423 : Index := Scalar.indexCast v9746
  let c1472_3263 : Index := 1472#32
  let c256_3264 : Index := 256#32
  ![v11423.toNat, 1472, 256]
def k0_off74 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11451 : Index := Scalar.indexCast v9746
  let c1536_3274 : Index := 1536#32
  let c256_3275 : Index := 256#32
  ![v11451.toNat, 1536, 256]
def k0_off75 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11475 : Index := Scalar.indexCast v9746
  let c1600_3282 : Index := 1600#32
  let c256_3283 : Index := 256#32
  ![v11475.toNat, 1600, 256]
def k0_off76 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11503 : Index := Scalar.indexCast v9746
  let c1664_3293 : Index := 1664#32
  let c256_3294 : Index := 256#32
  ![v11503.toNat, 1664, 256]
def k0_off77 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11527 : Index := Scalar.indexCast v9746
  let c1728_3301 : Index := 1728#32
  let c256_3302 : Index := 256#32
  ![v11527.toNat, 1728, 256]
def k0_off78 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11555 : Index := Scalar.indexCast v9746
  let c1792_3312 : Index := 1792#32
  let c256_3313 : Index := 256#32
  ![v11555.toNat, 1792, 256]
def k0_off79 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11579 : Index := Scalar.indexCast v9746
  let c1856_3320 : Index := 1856#32
  let c256_3321 : Index := 256#32
  ![v11579.toNat, 1856, 256]
def k0_off80 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11607 : Index := Scalar.indexCast v9746
  let c1920_3331 : Index := 1920#32
  let c256_3332 : Index := 256#32
  ![v11607.toNat, 1920, 256]
def k0_off81 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11631 : Index := Scalar.indexCast v9746
  let c1984_3339 : Index := 1984#32
  let c256_3340 : Index := 256#32
  ![v11631.toNat, 1984, 256]
def k0_off82 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11659 : Index := Scalar.indexCast v9746
  let c2048_3350 : Index := 2048#32
  let c256_3351 : Index := 256#32
  ![v11659.toNat, 2048, 256]
def k0_off83 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11683 : Index := Scalar.indexCast v9746
  let c2112_3358 : Index := 2112#32
  let c256_3359 : Index := 256#32
  ![v11683.toNat, 2112, 256]
def k0_off84 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11711 : Index := Scalar.indexCast v9746
  let c2176_3369 : Index := 2176#32
  let c256_3370 : Index := 256#32
  ![v11711.toNat, 2176, 256]
def k0_off85 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11735 : Index := Scalar.indexCast v9746
  let c2240_3377 : Index := 2240#32
  let c256_3378 : Index := 256#32
  ![v11735.toNat, 2240, 256]
def k0_off86 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11763 : Index := Scalar.indexCast v9746
  let c2304_3388 : Index := 2304#32
  let c256_3389 : Index := 256#32
  ![v11763.toNat, 2304, 256]
def k0_off87 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11787 : Index := Scalar.indexCast v9746
  let c2368_3396 : Index := 2368#32
  let c256_3397 : Index := 256#32
  ![v11787.toNat, 2368, 256]
def k0_off88 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11815 : Index := Scalar.indexCast v9746
  let c2432_3407 : Index := 2432#32
  let c256_3408 : Index := 256#32
  ![v11815.toNat, 2432, 256]
def k0_off89 (k0_t2 : Fin k0_t2_loop.trips) : Fin 3 → Nat :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let v11839 : Index := Scalar.indexCast v9746
  let c2496_3415 : Index := 2496#32
  let c256_3416 : Index := 256#32
  ![v11839.toNat, 2496, 256]
def k0_mult5 (k0_t2 : Fin k0_t2_loop.trips) : BitVec 32 :=
  let c0_i32_2667 : BitVec 32 := 0#32
  let c0_i32_2662 : BitVec 32 := 0#32
  let c1_i32_2664 : BitVec 32 := 1#32
  let arg15 : BitVec 32 := Scf.iv c0_i32_2662 c1_i32_2664 k0_t2
  let c1_i32_2666 : BitVec 32 := 1#32
  let v9745 : BitVec 32 := Scalar.muli arg15 c1_i32_2666
  let v9746 : BitVec 32 := Scalar.addi c0_i32_2667 v9745
  let c512_i32 : BitVec 32 := 512#32
  let v9747 : BitVec 32 := Scalar.muli v9746 c512_i32
  let v9748 : BitVec 32 := v9747
  let c256_i32 : BitVec 32 := 256#32
  let v11868 : BitVec 32 := Scalar.addi v9748 c256_i32
  v11868
abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x17920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
abbrev S40x2x512 : Shape := ⟨3, ![40, 2, 512]⟩
abbrev S40x1x512 : Shape := ⟨3, ![40, 1, 512]⟩
abbrev S20x2x512 : Shape := ⟨3, ![20, 2, 512]⟩
abbrev S20x1x512 : Shape := ⟨3, ![20, 1, 512]⟩
abbrev S1x2x256 : Shape := ⟨3, ![1, 2, 256]⟩
abbrev S1x1x256 : Shape := ⟨3, ![1, 1, 256]⟩
  | .local _ .vmem, ⟨7, _⟩ => ⟨S40x2x512, .bf16⟩
  | .local _ .vmem, ⟨8, _⟩ => ⟨S40x2x512, .bf16⟩
variable {F : FTy → Type} [FloatOps F]
-- ==== ReferenceIdeal.lean ====
abbrev S8x1x5120 : Shape := ⟨3, ![8, 1, 5120]⟩
abbrev S2560x17920 : Shape := ⟨2, ![2560, 17920]⟩
abbrev S40x17920 : Shape := ⟨2, ![40, 17920]⟩
abbrev S20x17920 : Shape := ⟨2, ![20, 17920]⟩
abbrev S5120 : Shape := ⟨1, ![5120]⟩
abbrev S_ : Shape := ⟨0, ![]⟩
abbrev S5120x1 : Shape := ⟨2, ![5120, 1]⟩
abbrev S40x64x17920 : Shape := ⟨3, ![40, 64, 17920]⟩
abbrev S40x1x17920 : Shape := ⟨3, ![40, 1, 17920]⟩
abbrev S8x1x2560 : Shape := ⟨3, ![8, 1, 2560]⟩
abbrev S8x1x17920 : Shape := ⟨3, ![8, 1, 17920]⟩
abbrev S8x17920 : Shape := ⟨2, ![8, 17920]⟩

abbrev nBuf : Space → Nat
  | .hbm => 53
  | .vmem => 0
  | .smem => 0
  | _ => 0

abbrev bufTy : (tb : Table) → Fin (tcTables nBuf tb) → BufTy
  | .hbm, ⟨0, _⟩ => ⟨S8x1x5120, .bf16⟩
  | .hbm, ⟨1, _⟩ => ⟨S2560x17920, .i8⟩
  | .hbm, ⟨2, _⟩ => ⟨S40x17920, .bf16⟩
  | .hbm, ⟨3, _⟩ => ⟨S20x17920, .i8⟩
  | .hbm, ⟨4, _⟩ => ⟨S5120, .i32⟩
  | .hbm, ⟨5, _⟩ => ⟨S5120, .i32⟩
  | .hbm, ⟨6, _⟩ => ⟨S20x17920, .i32⟩
  | .hbm, ⟨7, _⟩ => ⟨S_, .i32⟩
  | .hbm, ⟨8, _⟩ => ⟨S20x17920, .i32⟩
  | .hbm, ⟨9, _⟩ => ⟨S20x17920, .i32⟩
  | .hbm, ⟨10, _⟩ => ⟨S_, .i32⟩
  | .hbm, ⟨11, _⟩ => ⟨S20x17920, .i32⟩
  | .hbm, ⟨12, _⟩ => ⟨S20x17920, .i32⟩
  | .hbm, ⟨13, _⟩ => ⟨S40x17920, .i32⟩
  | .hbm, ⟨14, _⟩ => ⟨S40x17920, .bf16⟩
  | .hbm, ⟨15, _⟩ => ⟨S_, .i32⟩
  | .hbm, ⟨16, _⟩ => ⟨S5120, .i32⟩
  | .hbm, ⟨17, _⟩ => ⟨S5120, .i1⟩
  | .hbm, ⟨18, _⟩ => ⟨S_, .i32⟩
  | .hbm, ⟨19, _⟩ => ⟨S5120, .i32⟩
  | .hbm, ⟨20, _⟩ => ⟨S5120, .i32⟩
  | .hbm, ⟨21, _⟩ => ⟨S5120, .i32⟩
  | .hbm, ⟨22, _⟩ => ⟨S5120x1, .i32⟩
  | .hbm, ⟨23, _⟩ => ⟨S8x1x5120, .bf16⟩
  | .hbm, ⟨24, _⟩ => ⟨S2560x17920, .i32⟩
  | .hbm, ⟨25, _⟩ => ⟨S40x64x17920, .i32⟩
  | .hbm, ⟨26, _⟩ => ⟨S40x1x17920, .bf16⟩
  | .hbm, ⟨27, _⟩ => ⟨S40x1x17920, .bf16⟩
  | .hbm, ⟨28, _⟩ => ⟨S_, .i32⟩
  | .hbm, ⟨29, _⟩ => ⟨S40x64x17920, .i32⟩
  | .hbm, ⟨30, _⟩ => ⟨S40x64x17920, .i32⟩
  | .hbm, ⟨31, _⟩ => ⟨S40x64x17920, .bf16⟩
  | .hbm, ⟨32, _⟩ => ⟨S40x64x17920, .bf16⟩
  | .hbm, ⟨33, _⟩ => ⟨S40x64x17920, .bf16⟩
  | .hbm, ⟨34, _⟩ => ⟨S40x64x17920, .bf16⟩
  | .hbm, ⟨35, _⟩ => ⟨S40x64x17920, .bf16⟩
  | .hbm, ⟨36, _⟩ => ⟨S2560x17920, .bf16⟩
  | .hbm, ⟨37, _⟩ => ⟨S_, .i32⟩
  | .hbm, ⟨38, _⟩ => ⟨S40x64x17920, .i32⟩
  | .hbm, ⟨39, _⟩ => ⟨S40x64x17920, .i32⟩
  | .hbm, ⟨40, _⟩ => ⟨S40x64x17920, .bf16⟩
  | .hbm, ⟨41, _⟩ => ⟨S40x64x17920, .bf16⟩
  | .hbm, ⟨42, _⟩ => ⟨S40x64x17920, .bf16⟩
  | .hbm, ⟨43, _⟩ => ⟨S40x64x17920, .bf16⟩
  | .hbm, ⟨44, _⟩ => ⟨S40x64x17920, .bf16⟩
  | .hbm, ⟨45, _⟩ => ⟨S2560x17920, .bf16⟩
  | .hbm, ⟨46, _⟩ => ⟨S8x1x2560, .bf16⟩
  | .hbm, ⟨47, _⟩ => ⟨S8x1x17920, .f32⟩
  | .hbm, ⟨48, _⟩ => ⟨S8x1x2560, .bf16⟩
  | .hbm, ⟨49, _⟩ => ⟨S8x1x17920, .f32⟩
  | .hbm, ⟨50, _⟩ => ⟨S8x1x17920, .f32⟩
  | .hbm, ⟨51, _⟩ => ⟨S8x1x17920, .bf16⟩
  | .hbm, ⟨52, _⟩ => ⟨S8x17920, .bf16⟩
  | _, _ => ⟨S8x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.KernelSlots.lean ====
/-
  The kernel's one buffer of quantised weights and the transfers that fill it, for `Kernel`: column block `b` of the
  weights left in HBM, slot `s` of the buffer, slot `s`'s DMA cell, under canonical names; a slot at rest, in flight,
  delivered; and the invariant of the loop that issues the thirty-five transfers.
-/
module

public import proofs.«01_k».proof.Proof.Gen.Kernel.Skeleton
public import proofs.«01_k».proof.Proof.Gen.Kernel.Loops
public import proofs.«01_k».proof.Proof.Gen.Kernel.Launch
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.VecWindow
public import Idealize.ShloMosaic.Lib.Tactic

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## The resource algebra: the pipeline library's, beside the counters the kernel's own transfers ride on -/

local notation "𝕄" => MT nD τ sig Unit (Elt F) ℕ (Pipeline.UD sig nD τ) ℕ
abbrev 𝒱₀ : Variants := Variants.none

omit [BitOps F] in
theorem entails_of_eq {P Q : sProp 𝕄} (e : P = Q) : P ⊢ Q := e ▸ .rfl

/-! ## Canonical names: column block `b`, slot `s`, slot `s`'s cell -/

abbrev qM : Memref sig .tc .hbm S2560x17920 .i8 := Memref.whole main_arg1
abbrev sM : Memref sig .tc .hbm S40x17920 .bf16 := Memref.whole main_arg2
abbrev zM : Memref sig .tc .hbm S20x17920 .i8 := Memref.whole main_arg3
abbrev xpM : Memref sig .tc .vmem S8x5120 .bf16 := Memref.whole cc0_scratch0
abbrev bufM : Memref sig .tc .vmem S35x2560x512 .i8 := Memref.whole cc0_scratch1
abbrev svM : Memref sig .tc .vmem S40x17920 .bf16 := Memref.whole cc0_scratch2
abbrev zvM : Memref sig .tc .vmem S20x17920 .i8 := Memref.whole cc0_scratch3
abbrev sbM : Memref sig .tc .vmem S40x512 .i32 := Memref.whole cc0_scratch4
abbrev zbM : Memref sig .tc .vmem S40x512 .i32 := Memref.whole cc0_scratch5

abbrev colOff (b : Fin 35) : Fin 2 → Nat := ![0, 512 * b.val]
theorem colOff_inb (b : Fin 35) : ∀ a, colOff b a + S2560x512.size a ≤ S2560x17920.size a := by
  have := b.isLt; intro a; fin_cases a
  · show 0 + 2560 ≤ 2560; omega
  · show 512 * b.val + 512 ≤ 17920; omega
abbrev slotOff (s : Fin 35) : Fin 3 → Nat := ![s.val, 0, 0]
theorem slotOff_inb (s : Fin 35) : ∀ a, slotOff s a + S1x2560x512.size a ≤ S35x2560x512.size a := by
  have := s.isLt; intro a; fin_cases a
  · show s.val + 1 ≤ 35; omega
  · show 0 + 2560 ≤ 2560; omega
  · show 0 + 512 ≤ 512; omega
abbrev semOff (s : Fin 35) : Fin 1 → Nat := ![s.val]
theorem semOff_inb (s : Fin 35) : ∀ a, semOff s a + S1.size a ≤ S35.size a := by
  have := s.isLt; intro a; fin_cases a; show s.val + 1 ≤ 35; omega

/-- Column block `b` of the weights, as the body slices it. -/
def blkQ (b : Fin 35) : Memref sig .tc .hbm S2560x512 .i8 :=
  qM.slice (Rect.unit (s := S2560x17920) (colOff b) S2560x512.size (colOff_inb b)) (fun _ => rfl)
/-- Slot `s` of the buffer, as the body slices and squeezes it. -/
def rslot (s : Fin 35) : Memref sig .tc .vmem S2560x512 .i8 :=
  (bufM.slice (Rect.unit (s := S35x2560x512) (slotOff s) S1x2560x512.size (slotOff_inb s)) (fun _ => rfl)).squeeze S2560x512 squeezes_S1x2560x512_S2560x512
/-- Slot `s`'s DMA semaphore. -/
def csm (s : Fin 35) : DmaSems sig S_ := (cc0_scratch6.slice (Rect.unit (s := S35) (semOff s) S1.size (semOff_inb s))).squeeze S_ squeezes_S1_S_

instance (s : Fin 35) : ClosedOff (slotOff s) := ⟨slotOff s, rfl⟩
instance (b : Fin 35) : ClosedOff (colOff b) := ⟨colOff b, rfl⟩

theorem trips1_eq : k0_t1_loop.trips = 35 := by decide +kernel
theorem trips2_eq : k0_t2_loop.trips = 35 := by decide +kernel
/-- Trip `k` of either loop works on slot `k`. -/
def ix1 (k : Fin k0_t1_loop.trips) : Fin 35 := ⟨k.val, Nat.lt_of_lt_of_eq k.isLt trips1_eq⟩
def ix2 (k : Fin k0_t2_loop.trips) : Fin 35 := ⟨k.val, Nat.lt_of_lt_of_eq k.isLt trips2_eq⟩

/-! ### The canonical-name equations: the body's slices are `csm`, `rslot`, `blkQ` -/

private theorem csm_congr {off : Fin 1 → Nat} {s : Fin 35} (e : off = semOff s) (hh) :
    (cc0_scratch6.slice (Rect.unit (s := S35) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 35} (e : off = slotOff s) (hh hs) :
    (bufM.slice (Rect.unit (s := S35x2560x512) off S1x2560x512.size hh) hs).squeeze S2560x512 squeezes_S1x2560x512_S2560x512 = rslot s :=
  congrArg (fun M : Memref sig .tc .vmem S1x2560x512 .i8 => M.squeeze S2560x512 squeezes_S1x2560x512_S2560x512) (Memref.slice_unit_congr _ e _ _ _ _)
private theorem blkQ_congr {off : Fin 2 → Nat} {b : Fin 35} (e : off = colOff b) (hh hs) :
    qM.slice (Rect.unit (s := S2560x17920) off S2560x512.size hh) hs = blkQ b :=
  Memref.slice_unit_congr _ e _ _ hs (fun _ => rfl)

@[sl_canon] theorem sem1 (k : Fin k0_t1_loop.trips) (hh) :
    (cc0_scratch6.slice (Rect.unit (s := S35) (k0_off1 k) S1.size hh)).squeeze S_ squeezes_S1_S_ = csm (ix1 k) := csm_congr (k0_off1_eq k) _
@[sl_canon] theorem slot1 (k : Fin k0_t1_loop.trips) (hh hs) :
    (bufM.slice (Rect.unit (s := S35x2560x512) (k0_off2 k) S1x2560x512.size hh) hs).squeeze S2560x512 squeezes_S1x2560x512_S2560x512 = rslot (ix1 k) := rslot_congr (k0_off2_eq k) _ _
@[sl_canon] theorem blk1 (k : Fin k0_t1_loop.trips) (hh hs) :
    qM.slice (Rect.unit (s := S2560x17920) (k0_off3 k) S2560x512.size hh) hs = blkQ (ix1 k) := blkQ_congr (k0_off3_eq k) _ _
@[sl_canon] theorem sem2 (k : Fin k0_t2_loop.trips) (hh) :
    (cc0_scratch6.slice (Rect.unit (s := S35) (k0_off6 k) S1.size hh)).squeeze S_ squeezes_S1_S_ = csm (ix2 k) := csm_congr (k0_off6_eq k) _
@[sl_canon] theorem slot2 (k : Fin k0_t2_loop.trips) (hh hs) :
    (bufM.slice (Rect.unit (s := S35x2560x512) (k0_off7 k) S1x2560x512.size hh) hs).squeeze S2560x512 squeezes_S1x2560x512_S2560x512 = rslot (ix2 k) := rslot_congr (k0_off7_eq k) _ _
@[sl_canon] theorem blk2 (k : Fin k0_t2_loop.trips) (hh hs) :
    qM.slice (Rect.unit (s := S2560x17920) (k0_off8 k) S2560x512.size hh) hs = blkQ (ix2 k) := blkQ_congr (k0_off8_eq k) _ _

/-! ## Element sets: the weights' column blocks, the buffer's slots -/

abbrev QB (b : Fin 35) : Finset S2560x17920.Idx := (Rect.unit (s := S2560x17920) (colOff b) S2560x512.size (colOff_inb b)).set
abbrev SL (s : Fin 35) : Finset S35x2560x512.Idx := (Rect.unit (s := S35x2560x512) (slotOff s) S1x2560x512.size (slotOff_inb s)).set

theorem blkQ_set (b : Fin 35) : (blkQ b : Memref sig .tc .hbm _ _).view.set = QB b := View.set_slice_whole _ _
theorem rslot_set (s : Fin 35) : (rslot s : Memref sig .tc .vmem _ _).view.set = SL s := (View.set_reshape _ _).trans (View.set_slice_whole _ _)

theorem mem_QB (b : Fin 35) (y : S2560x17920.Idx) : y ∈ QB b ↔ (y 1).val / 512 = b.val := by
  rw [Rect.mem_set_unit]
  have h0 : (y 0).val < 2560 := (y 0).isLt
  have h1 : (y 1).val < 17920 := (y 1).isLt
  constructor
  · intro H; have a1 : 512 * b.val ≤ (y 1).val ∧ (y 1).val < 512 * b.val + 512 := H 1; omega
  · intro H i; fin_cases i
    · show 0 ≤ (y 0).val ∧ (y 0).val < 0 + 2560; omega
    · show 512 * b.val ≤ (y 1).val ∧ (y 1).val < 512 * b.val + 512; omega
theorem mem_SL (s : Fin 35) (y : S35x2560x512.Idx) : y ∈ SL s ↔ (y 0).val = s.val := by
  rw [Rect.mem_set_unit]
  have h1 : (y 1).val < 2560 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 512; omega
theorem QB_disjoint : ∀ b b' : Fin 35, b ≠ b' → Disjoint (QB b) (QB b') := by
  intro b b' hne; rw [Finset.disjoint_left]; intro y hy hy'; rw [mem_QB] at hy hy'; exact hne (Fin.ext (hy.symm.trans hy'))
theorem QB_cover : (Finset.univ : Finset (Fin 35)).biUnion QB = Finset.univ := by
  ext y; simp only [Finset.mem_biUnion, Finset.mem_univ, true_and, iff_true]
  have h1 : (y 1).val < 17920 := (y 1).isLt
  exact ⟨⟨(y 1).val / 512, by omega⟩, by rw [mem_QB]⟩
theorem SL_disjoint : ∀ s s' : Fin 35, s ≠ s' → Disjoint (SL s) (SL s') := by
  intro s s' hne; rw [Finset.disjoint_left]; intro y hy hy'; rw [mem_SL] at hy hy'; exact hne (Fin.ext (hy.symm.trans hy'))
theorem SL_cover : (Finset.univ : Finset (Fin 35)).biUnion SL = Finset.univ := by
  ext y; simp only [Finset.mem_biUnion, Finset.mem_univ, true_and, iff_true]
  have h0 : (y 0).val < 35 := (y 0).isLt
  exact ⟨⟨(y 0).val, h0⟩, by rw [mem_SL]⟩

/-- A box of slot `k` read through the whole buffer lies in the slot. -/
theorem slot_sub (k : Fin k0_t2_loop.trips) {off : Fin 3 → Nat} {r n : ℕ} (e : off = ![k.val, r, n])
    (h : ∀ a, off a + S1x64x256.size a ≤ S35x2560x512.size a) :
    LE.le (α := Finset (rslot (ix2 k)).view.ty.Idx) (bufM.access (Rect.unit (s := S35x2560x512) off S1x64x256.size h)).set (rslot (ix2 k)).view.set := by
  subst e
  have hU : (bufM.access (Rect.unit (s := S35x2560x512) ![k.val, r, n] S1x64x256.size h)).set
      = (Rect.unit (s := S35x2560x512) ![k.val, r, n] S1x64x256.size h).set := View.set_slice_whole _ _
  have hsub : (Rect.unit (s := S35x2560x512) ![k.val, r, n] S1x64x256.size h).set ⊆ SL (ix2 k) := by
    intro y hy
    rw [Rect.mem_set_unit] at hy
    rw [mem_SL]
    have a0 : k.val ≤ (y 0).val ∧ (y 0).val < k.val + 1 := hy 0
    show (y 0).val = k.val
    omega
  exact (hU.le.trans hsub).trans (rslot_set (ix2 k)).ge

/-! ## The pieces: a block home, a slot held, a slot's cell, a slot in flight -/

section Pieces
variable (c : Dev nD) (XQ : Buf (Elt F) (qM.view.loc (c : Thread nD τ)))

abbrev cellP (s : Fin 35) : sProp 𝕄 := semVal ((c : Thread nD τ), SemLoc.dma (csm s).sem) 0
abbrev slotP (s : Fin 35) (f : Buf (Elt F) ((rslot s).view.loc (c : Thread nD τ))) : sProp 𝕄 :=
  (rslot s).view.loc (c : Thread nD τ) ↦[(rslot s).view.set]{fullShare} f
/-- Block `b` HOME: held on its elements at the weights' contents. -/
abbrev homeP (b : Fin 35) : sProp 𝕄 := (blkQ b).view.loc (c : Thread nD τ) ↦[(blkQ b).view.set]{fullShare} XQ
/-- Block `b`'s elements as a slot's payload. -/
abbrev payload (b : Fin 35) : S2560x512.Idx → Elt F .i8 := ReadAs.same.apply ((blkQ b).view.read (Elt F) XQ)
/-- What block `s`'s transfer leaves in slot `s` over prior contents `f`: the block, written whole. -/
abbrev landed (s : Fin 35) (f : Buf (Elt F) ((rslot s).view.loc (c : Thread nD τ))) : Buf (Elt F) ((rslot s).view.loc (c : Thread nD τ)) :=
  (rslot s).view.writes (Elt F) f [⟨Rect.whole S2560x512, payload c XQ s⟩]
/-- The buffer's contents once every slot is delivered. -/
def bufQ : Buf (Elt F) (bufM.view.loc (c : Thread nD τ)) := fun i : S35x2560x512.Idx =>
  ((rslot (i 0)).view.writes (Elt F) (rslot (i 0)).view.junk [⟨Rect.whole S2560x512, payload c XQ (i 0)⟩] : S35x2560x512.Idx → Elt F .i8) i

/-- A slot delivered over any contents is the slot at the delivered buffer. -/
theorem landed_eq (s : Fin 35) (f : Buf (Elt F) ((rslot s).view.loc (c : Thread nD τ))) :
    slotP c s (landed c XQ s f) = slotP c s (bufQ c XQ) := by
  have e1 : slotP c s (landed c XQ s f) = slotP c s (landed c XQ s (rslot s).view.junk) :=
    pointsTo_writes_whole_rebase (Ix := Unit) (Name := ℕ) (U := Pipeline.UD sig nD τ) (Lvl := ℕ) (c : Thread nD τ) (rslot s) _ _ _ _
  refine e1.trans (pointsTo_congr fun y hy => ?_)
  rw [rslot_set] at hy
  have hs : (show S35x2560x512.Idx from y) 0 = s := Fin.ext ((mem_SL s y).1 hy)
  show _ = bufQ c XQ y
  unfold bufQ
  rw [hs]

/-- A block's transfer moves this many units on its cell. -/
abbrev NN : ℕ := 40960
/-- Slot `s` IN FLIGHT with block `s`. -/
abbrev flightP (s : Fin 35) : sProp 𝕄 :=
  Transfers.Flight countersEmb (c : Thread nD τ) (SemLoc.dma (csm s).sem) () NN iprop(slotP c s (bufQ c XQ) ∗ homeP c XQ s)
/-- Slot `s` AT REST: held at anything, its cell at zero, its block home. -/
abbrev idleP (s : Fin 35) : sProp 𝕄 := iprop((∃ f, slotP c s f) ∗ cellP c s ∗ homeP c XQ s)

/-- Slot `s` DELIVERED: held at the delivered buffer, its cell at zero, its block home. -/
abbrev doneP (s : Fin 35) : sProp 𝕄 := iprop(slotP c s (bufQ c XQ) ∗ cellP c s ∗ homeP c XQ s)

/-- The thirty-five slots: those below `b` delivered, the next ones below `a` in flight, the others at rest. -/
@[irreducible] def ring (a b : ℕ) : sProp 𝕄 :=
  bigSep Finset.univ (fun s : Fin 35 => if s.val < b then doneP c XQ s else if s.val < a then flightP c XQ s else idleP c XQ s)

theorem ring_issue (a : ℕ) : ring c XQ a 0 = bigSep Finset.univ (fun s : Fin 35 => if s.val < a then flightP c XQ s else idleP c XQ s) := by
  unfold ring
  exact bigSep_congr fun s _ => if_neg (Nat.not_lt_zero _)
theorem ring_drain (b : ℕ) : ring c XQ k0_t1_loop.trips b = bigSep Finset.univ (fun s : Fin 35 => if s.val < b then doneP c XQ s else flightP c XQ s) := by
  unfold ring
  refine bigSep_congr fun s _ => ?_
  rw [if_pos (show s.val < k0_t1_loop.trips by rw [trips1_eq]; exact s.isLt)]
theorem ring_rest : ring c XQ 0 0 = bigSep Finset.univ (fun s : Fin 35 => idleP c XQ s) := by
  rw [ring_issue]
  exact bigSep_congr fun s _ => if_neg (Nat.not_lt_zero _)
theorem ring_all : ring c XQ k0_t1_loop.trips k0_t2_loop.trips = bigSep Finset.univ (fun s : Fin 35 => doneP c XQ s) := by
  rw [ring_drain]
  exact bigSep_congr fun s _ => if_pos (by rw [trips2_eq]; exact s.isLt)

omit [BitOps F] in
/-- A family that is `A` below `k` and `B` from `k` on: member `k`, still `B`, beside the rest; -/
theorem fam_here (A B : Fin 35 → sProp 𝕄) (k : Fin 35) :
    bigSep Finset.univ (fun s : Fin 35 => if s.val < k.val then A s else B s)
      = iprop(B k ∗ bigSep (Finset.univ.erase k) (fun s : Fin 35 => if s.val < k.val then A s else B s)) := by
  rw [bigSep_univ_split k, if_neg (Nat.lt_irrefl _)]; rfl
omit [BitOps F] in
/-- one member on, it is `A` beside the same rest. -/
theorem fam_next (A B : Fin 35 → sProp 𝕄) (k : Fin 35) :
    bigSep Finset.univ (fun s : Fin 35 => if s.val < k.val + 1 then A s else B s)
      = iprop(A k ∗ bigSep (Finset.univ.erase k) (fun s : Fin 35 => if s.val < k.val then A s else B s)) := by
  rw [bigSep_univ_split k, if_pos (Nat.lt_succ_self _)]
  congr 1
  refine bigSep_congr fun s hs => ?_
  have hne : s.val ≠ k.val := fun e => (Finset.mem_erase.1 hs).1 (Fin.ext e)
  by_cases h : s.val < k.val
  · rw [if_pos h, if_pos (by omega)]
  · rw [if_neg h, if_neg (by omega)]

end Pieces

/-! ## The loop that issues the transfers -/

section Issue
variable (c : Dev nD) (XQ : Buf (Elt F) (qM.view.loc (c : Thread nD τ)))
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

abbrev trip1 (k : Fin k0_t1_loop.trips) : Prog (TpuEff nD τ sig (Elt F) Λ₀ .tc) Unit :=
  k0_t1_body (F := F) arg0 harg0 arg1 harg1 qM (Memref.isWhole_whole _) sM (Memref.isWhole_whole _) zM (Memref.isWhole_whole _) arg5 harg5
    xpM (Memref.isWhole_whole _) bufM (Memref.isWhole_whole _) svM (Memref.isWhole_whole _) zvM (Memref.isWhole_whole _)
    sbM (Memref.isWhole_whole _) zbM (Memref.isWhole_whole _) cc0_scratch6 cc0_scratch7 cc0_scratch8 k ()

/-- One trip: slot `k`, at rest, is put in flight. -/
theorem issueRun (k : Fin k0_t1_loop.trips) (W : Waits sig Unit) :
    iprop(ring c XQ k.val 0 ∗ owes (c : Thread nD τ) 0 W)
      ⊢ wp frame (wpE (defs₀ (F := F)) 𝒱₀ (c : Thread nD τ) none) Set.univ (trip1 arg0 harg0 arg1 harg1 arg5 harg5 k)
        (fun _ => iprop(ring c XQ (k.val + 1) 0 ∗ ∃ W, owes (c : Thread nD τ) 0 W)) := by
  rw [ring_issue, ring_issue]
  have eh := fam_here (flightP c XQ) (idleP c XQ) (ix1 k)
  have en := fam_next (flightP c XQ) (idleP c XQ) (ix1 k)
  rw [show (ix1 k).val = k.val from rfl] at eh en
  rw [eh, en]
  iintro ⟨⟨⟨⟨%f, Hs⟩, Hc, Hq⟩, Hrest⟩, HW⟩
  dsimp only [trip1]
  sl_unfold [k0_t1_body]
  sl_exec
  sl_step
  isplitl [Hc Hrest]
  · isplitl [Hc]
    · unfold flightP
      rw [← landed_eq c XQ (ix1 k) f]
      iexact Hc
    iexact Hrest
  iexists _; iexact HW

set_option warn.classDefReducibility false in
/-- The loop's invariant. -/
@[sl_loop] def loopInv1 :
    LoopInvTy_k0_t1 (F := F) Unit ℕ (Pipeline.UD sig nD τ) ℕ 𝒱₀ c none Set.univ arg0 harg0 arg1 harg1 qM (Memref.isWhole_whole _) sM (Memref.isWhole_whole _) zM (Memref.isWhole_whole _) arg5 harg5
      xpM (Memref.isWhole_whole _) bufM (Memref.isWhole_whole _) svM (Memref.isWhole_whole _) zvM (Memref.isWhole_whole _)
      sbM (Memref.isWhole_whole _) zbM (Memref.isWhole_whole _) cc0_scratch6 cc0_scratch7 cc0_scratch8 where
  inv k _ := iprop(ring c XQ k 0 ∗ ∃ W, owes (c : Thread nD τ) 0 W)
  step k _ := by
    iintro ⟨H, ⟨%W, HW⟩⟩
    iapply (issueRun c XQ arg0 harg0 arg1 harg1 arg5 harg5 k W)
    isplitl [H]; · iexact H
    iexact HW

end Issue

end Cert.Kernel.Hand

end
-- ==== Proof.KernelTrip.lean ====
/-
  One trip of `Kernel`'s main loop: slot `k` is waited for, the chunk's scales and zero points are laid out, and the
  chunk's 512 columns of the result are accumulated over the forty groups and stored. What the trip leaves in the
  result's buffer is found by the run.
-/
module

public import proofs.«01_k».proof.Proof.KernelSlots

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Main
variable (c : Dev nD) (XQ : Bf (F := F) c qM) (f6 : Bf (F := F) c xpM) (f8 : Bf (F := F) c svM) (f9 : Bf (F := F) c zvM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

abbrev trip2 (k : Fin k0_t2_loop.trips) : Prog (TpuEff nD τ sig (Elt F) Λ₀ .tc) Unit :=
  k0_t2_body (F := F) arg0 harg0 arg1 harg1 qM (Memref.isWhole_whole _) sM (Memref.isWhole_whole _) zM (Memref.isWhole_whole _) arg5 harg5
    xpM (Memref.isWhole_whole _) bufM (Memref.isWhole_whole _) svM (Memref.isWhole_whole _) zvM (Memref.isWhole_whole _)
    sbM (Memref.isWhole_whole _) zbM (Memref.isWhole_whole _) cc0_scratch6 cc0_scratch7 cc0_scratch8 k ()

set_option backward.proofsInPublic true in
set_option sl_exec.resultNames true in
/-- The two 256-column tiles one trip stores into the result's buffer, with the run: slot `k` in flight becomes slot `k` delivered. -/
def tripRun (k : Fin k0_t2_loop.trips) :
    { w : (S8x256.Idx → Elt F .bf16) × (S8x256.Idx → Elt F .bf16) // ∀ (fo : Bf (F := F) c arg5) (f10 : Bf (F := F) c sbM) (f11 : Bf (F := F) c zbM) (W : Waits sig Unit),
      iprop(flightP c XQ (ix2 k) ∗ pt c xpM f6 ∗ pt c svM f8 ∗ pt c zvM f9 ∗ pt c sbM f10 ∗ pt c zbM f11 ∗ pt c arg5 fo ∗ owes (c : Thread nD τ) 0 W)
      ⊢ wp frame (wpE (defs₀ (F := F)) 𝒱₀ (c : Thread nD τ) none) Set.univ (trip2 arg0 harg0 arg1 harg1 arg5 harg5 k)
        (fun _ => iprop(doneP c XQ (ix2 k) ∗ pt c xpM f6 ∗ pt c svM f8 ∗ pt c zvM f9 ∗ (∃ f, pt c sbM f) ∗ (∃ f, pt c zbM f)
          ∗ pt c arg5 (arg5.view.writes (Elt F) fo
              [⟨Rect.unit (s := S8x17920) (k0_off49 k 256#32) S8x256.size (k0_off49_inb k 1), w.2⟩,
               ⟨Rect.unit (s := S8x17920) (k0_off49 k 0#32) S8x256.size (k0_off49_inb k 0), w.1⟩]) ∗ ∃ W, owes (c : Thread nD τ) 0 W)) } := by
  refine ⟨⟨?_, ?_⟩, fun fo f10 f11 W => ?run⟩
  case run =>
    dsimp only [trip2]
    sl_unfold [k0_t2_body]
    have h9 := slot_sub k (k0_off9_eq k) (k0_off9_inb k)
    have h10 := slot_sub k (k0_off10_eq k) (k0_off10_inb k)
    have h11 := slot_sub k (k0_off11_eq k) (k0_off11_inb k)
    have h12 := slot_sub k (k0_off12_eq k) (k0_off12_inb k)
    have h13 := slot_sub k (k0_off13_eq k) (k0_off13_inb k)
    have h14 := slot_sub k (k0_off14_eq k) (k0_off14_inb k)
    have h15 := slot_sub k (k0_off15_eq k) (k0_off15_inb k)
    have h16 := slot_sub k (k0_off16_eq k) (k0_off16_inb k)
    have h17 := slot_sub k (k0_off17_eq k) (k0_off17_inb k)
    have h18 := slot_sub k (k0_off18_eq k) (k0_off18_inb k)
    have h19 := slot_sub k (k0_off19_eq k) (k0_off19_inb k)
    have h20 := slot_sub k (k0_off20_eq k) (k0_off20_inb k)
    have h21 := slot_sub k (k0_off21_eq k) (k0_off21_inb k)
    have h22 := slot_sub k (k0_off22_eq k) (k0_off22_inb k)
    have h23 := slot_sub k (k0_off23_eq k) (k0_off23_inb k)
    have h24 := slot_sub k (k0_off24_eq k) (k0_off24_inb k)
    have h25 := slot_sub k (k0_off25_eq k) (k0_off25_inb k)
    have h26 := slot_sub k (k0_off26_eq k) (k0_off26_inb k)
    have h27 := slot_sub k (k0_off27_eq k) (k0_off27_inb k)
    have h28 := slot_sub k (k0_off28_eq k) (k0_off28_inb k)
    have h29 := slot_sub k (k0_off29_eq k) (k0_off29_inb k)
    have h30 := slot_sub k (k0_off30_eq k) (k0_off30_inb k)
    have h31 := slot_sub k (k0_off31_eq k) (k0_off31_inb k)
    have h32 := slot_sub k (k0_off32_eq k) (k0_off32_inb k)
    have h33 := slot_sub k (k0_off33_eq k) (k0_off33_inb k)
    have h34 := slot_sub k (k0_off34_eq k) (k0_off34_inb k)
    have h35 := slot_sub k (k0_off35_eq k) (k0_off35_inb k)
    have h36 := slot_sub k (k0_off36_eq k) (k0_off36_inb k)
    have h37 := slot_sub k (k0_off37_eq k) (k0_off37_inb k)
    have h38 := slot_sub k (k0_off38_eq k) (k0_off38_inb k)
    have h39 := slot_sub k (k0_off39_eq k) (k0_off39_inb k)
    have h40 := slot_sub k (k0_off40_eq k) (k0_off40_inb k)
    have h41 := slot_sub k (k0_off41_eq k) (k0_off41_inb k)
    have h42 := slot_sub k (k0_off42_eq k) (k0_off42_inb k)
    have h43 := slot_sub k (k0_off43_eq k) (k0_off43_inb k)
    have h44 := slot_sub k (k0_off44_eq k) (k0_off44_inb k)
    have h45 := slot_sub k (k0_off45_eq k) (k0_off45_inb k)
    have h46 := slot_sub k (k0_off46_eq k) (k0_off46_inb k)
    have h47 := slot_sub k (k0_off47_eq k) (k0_off47_inb k)
    have h48 := slot_sub k (k0_off48_eq k) (k0_off48_inb k)
    have h50 := slot_sub k (k0_off50_eq k) (k0_off50_inb k)
    have h51 := slot_sub k (k0_off51_eq k) (k0_off51_inb k)
    have h52 := slot_sub k (k0_off52_eq k) (k0_off52_inb k)
    have h53 := slot_sub k (k0_off53_eq k) (k0_off53_inb k)
    have h54 := slot_sub k (k0_off54_eq k) (k0_off54_inb k)
    have h55 := slot_sub k (k0_off55_eq k) (k0_off55_inb k)
    have h56 := slot_sub k (k0_off56_eq k) (k0_off56_inb k)
    have h57 := slot_sub k (k0_off57_eq k) (k0_off57_inb k)
    have h58 := slot_sub k (k0_off58_eq k) (k0_off58_inb k)
    have h59 := slot_sub k (k0_off59_eq k) (k0_off59_inb k)
    have h60 := slot_sub k (k0_off60_eq k) (k0_off60_inb k)
    have h61 := slot_sub k (k0_off61_eq k) (k0_off61_inb k)
    have h62 := slot_sub k (k0_off62_eq k) (k0_off62_inb k)
    have h63 := slot_sub k (k0_off63_eq k) (k0_off63_inb k)
    have h64 := slot_sub k (k0_off64_eq k) (k0_off64_inb k)
    have h65 := slot_sub k (k0_off65_eq k) (k0_off65_inb k)
    have h66 := slot_sub k (k0_off66_eq k) (k0_off66_inb k)
    have h67 := slot_sub k (k0_off67_eq k) (k0_off67_inb k)
    have h68 := slot_sub k (k0_off68_eq k) (k0_off68_inb k)
    have h69 := slot_sub k (k0_off69_eq k) (k0_off69_inb k)
    have h70 := slot_sub k (k0_off70_eq k) (k0_off70_inb k)
    have h71 := slot_sub k (k0_off71_eq k) (k0_off71_inb k)
    have h72 := slot_sub k (k0_off72_eq k) (k0_off72_inb k)
    have h73 := slot_sub k (k0_off73_eq k) (k0_off73_inb k)
    have h74 := slot_sub k (k0_off74_eq k) (k0_off74_inb k)
    have h75 := slot_sub k (k0_off75_eq k) (k0_off75_inb k)
    have h76 := slot_sub k (k0_off76_eq k) (k0_off76_inb k)
    have h77 := slot_sub k (k0_off77_eq k) (k0_off77_inb k)
    have h78 := slot_sub k (k0_off78_eq k) (k0_off78_inb k)
    have h79 := slot_sub k (k0_off79_eq k) (k0_off79_inb k)
    have h80 := slot_sub k (k0_off80_eq k) (k0_off80_inb k)
    have h81 := slot_sub k (k0_off81_eq k) (k0_off81_inb k)
    have h82 := slot_sub k (k0_off82_eq k) (k0_off82_inb k)
    have h83 := slot_sub k (k0_off83_eq k) (k0_off83_inb k)
    have h84 := slot_sub k (k0_off84_eq k) (k0_off84_inb k)
    have h85 := slot_sub k (k0_off85_eq k) (k0_off85_inb k)
    have h86 := slot_sub k (k0_off86_eq k) (k0_off86_inb k)
    have h87 := slot_sub k (k0_off87_eq k) (k0_off87_inb k)
    have h88 := slot_sub k (k0_off88_eq k) (k0_off88_inb k)
    have h89 := slot_sub k (k0_off89_eq k) (k0_off89_inb k)
    iintro ⟨HF, H6, H8, H9, H10, H11, H5, HW⟩
    sl_exec_parts!
    sl_step
    isplitl [HF HF_src HF_dst]
    · isplitl [HF_dst]; · iexact HF_dst
      isplitl [HF]; · iexact HF
      iexact HF_src
    isplitl [H6]; · iexact H6
    isplitl [H8]; · iexact H8
    isplitl [H9]; · iexact H9
    isplitl [H10]; · iexists _; iexact H10
    isplitl [H11]; · iexists _; iexact H11
    isplitl [H5]; · unfold tripRun.sl.H5_1; iexact H5
    iexists _; iexact HW

end Main

end Cert.Kernel.Hand

end
-- ==== Proof.KernelBody.lean ====
/-
  The whole body of `Kernel`: the transfers issued, the activations gathered, the scales and zero points waited for, the
  thirty-five chunks computed; and the result it leaves, tile by tile, as a function of the operands' contents.
-/
module

public import proofs.«01_k».proof.Proof.KernelTrip

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

section Result
variable (c : Dev nD) (XQ : Bf (F := F) c qM) (f6 : Bf (F := F) c xpM) (f8 : Bf (F := F) c svM) (f9 : Bf (F := F) c zvM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

/-- Trip `k`'s two tiles. -/
abbrev tiles (k : Fin k0_t2_loop.trips) : (S8x256.Idx → Elt F .bf16) × (S8x256.Idx → Elt F .bf16) :=
  (tripRun c XQ f6 f8 f9 arg0 harg0 arg1 harg1 arg5 harg5 k).1

/-- The result's column `j` lies in chunk `j / 512`. -/
def chunkOf (i : S8x17920.Idx) : Fin k0_t2_loop.trips :=
  ⟨(i 1).val / 512, by have h : (i 1).val < 17920 := (i 1).isLt; rw [trips2_eq]; omega⟩
/-- Row `b`, column `n` of a tile. -/
def tileIx (b : Fin 8) (n : ℕ) (h : n < 256) : S8x256.Idx := Fin.cons b (Fin.cons ⟨n, h⟩ finZeroElim)

/-- The result: column `j` from the tile of its chunk that holds it. -/
def resultY (i : S8x17920.Idx) : Elt F .bf16 :=
  if h : (i 1).val % 512 < 256 then (tiles c XQ f6 f8 f9 arg0 harg0 arg1 harg1 arg5 harg5 (chunkOf i)).1 (tileIx (i 0) ((i 1).val % 512) h)
  else (tiles c XQ f6 f8 f9 arg0 harg0 arg1 harg1 arg5 harg5 (chunkOf i)).2 (tileIx (i 0) ((i 1).val % 512 - 256) (by omega))

/-- The result's buffer before trip `k`: right in the columns below `512 k`. -/
def filled (k : ℕ) (f : Bf (F := F) c arg5) : Prop :=
  ∀ i : S8x17920.Idx, (i 1).val < 512 * k → arg5.view.read (Elt F) f i = resultY c XQ f6 f8 f9 arg0 harg0 arg1 harg1 arg5 harg5 i

theorem filled_zero (f : Bf (F := F) c arg5) : filled c XQ f6 f8 f9 arg0 harg0 arg1 harg1 arg5 harg5 0 f := fun i h => absurd h (by omega)

theorem filled_all {f : Bf (F := F) c arg5} (h : filled c XQ f6 f8 f9 arg0 harg0 arg1 harg1 arg5 harg5 k0_t2_loop.trips f) :
    arg5.view.read (Elt F) f = resultY c XQ f6 f8 f9 arg0 harg0 arg1 harg1 arg5 harg5 := by
  funext i
  have h1 : (i 1).val < 17920 := (i 1).isLt
  exact h i (by rw [trips2_eq]; omega)

/-- Trip `k`'s two stores fill the next 512 columns. -/
theorem filled_next (k : Fin k0_t2_loop.trips) (f : Bf (F := F) c arg5)
    (h : filled c XQ f6 f8 f9 arg0 harg0 arg1 harg1 arg5 harg5 k.val f) :
    filled c XQ f6 f8 f9 arg0 harg0 arg1 harg1 arg5 harg5 (k.val + 1) (arg5.view.writes (Elt F) f
      [⟨Rect.unit (s := S8x17920) (k0_off49 k 256#32) S8x256.size (k0_off49_inb k 1), (tiles c XQ f6 f8 f9 arg0 harg0 arg1 harg1 arg5 harg5 k).2⟩,
       ⟨Rect.unit (s := S8x17920) (k0_off49 k 0#32) S8x256.size (k0_off49_inb k 0), (tiles c XQ f6 f8 f9 arg0 harg0 arg1 harg1 arg5 harg5 k).1⟩]) := by
  intro i hi
  have e0 : k0_off49 k 0#32 = ![0, 512 * k.val] := k0_off49_eq k 0
  have e1 : k0_off49 k 256#32 = ![0, 512 * k.val + 256] := k0_off49_eq k 1
  have b0 : ∀ a, k0_off49 k 0#32 a + S8x256.size a ≤ S8x17920.size a := k0_off49_inb k 0
  have b1 : ∀ a, k0_off49 k 256#32 a + S8x256.size a ≤ S8x17920.size a := k0_off49_inb k 1
  by_cases hlo : (i 1).val < 512 * k.val
  · rw [View.read_writes_cons_unit_of_not_mem arg5.view _ b1 _ _ i e1 1 (Or.inl (by show (i 1).val < 512 * k.val + 256; omega)),
      View.read_writes_cons_unit_of_not_mem arg5.view _ b0 _ _ i e0 1 (Or.inl (by show (i 1).val < 512 * k.val; omega))]
    exact h i hlo
  · have hk : chunkOf i = k := Fin.ext (by show (i 1).val / 512 = k.val; omega)
    unfold resultY
    rw [hk]
    by_cases hm : (i 1).val % 512 < 256
    · rw [dif_pos hm, View.read_writes_cons_unit_of_not_mem arg5.view _ b1 _ _ i e1 1 (Or.inl (by show (i 1).val < 512 * k.val + 256; omega))]
      refine View.read_writes_cons_unit_of_mem arg5.view _ b0 _ _ i (tileIx (i 0) ((i 1).val % 512) hm) e0 (Fin.forall_fin_two.mpr ⟨?_, ?_⟩)
      · show (i 0).val = 0 + (i 0).val; omega
      · show (i 1).val = 512 * k.val + (i 1).val % 512; omega
    · rw [dif_neg hm]
      refine View.read_writes_cons_unit_of_mem arg5.view _ b1 _ _ i (tileIx (i 0) ((i 1).val % 512 - 256) (by omega)) e1 (Fin.forall_fin_two.mpr ⟨?_, ?_⟩)
      · show (i 0).val = 0 + (i 0).val; omega
      · show (i 1).val = 512 * k.val + 256 + ((i 1).val % 512 - 256); omega

/-- The result's buffer before trip `k`, from contents `f`. -/
def yAcc (f : Bf (F := F) c arg5) : ℕ → Bf (F := F) c arg5
  | 0 => f
  | k + 1 => if h : k < k0_t2_loop.trips then arg5.view.writes (Elt F) (yAcc f k)
      [⟨Rect.unit (s := S8x17920) (k0_off49 ⟨k, h⟩ 256#32) S8x256.size (k0_off49_inb ⟨k, h⟩ 1), (tiles c XQ f6 f8 f9 arg0 harg0 arg1 harg1 arg5 harg5 ⟨k, h⟩).2⟩,
       ⟨Rect.unit (s := S8x17920) (k0_off49 ⟨k, h⟩ 0#32) S8x256.size (k0_off49_inb ⟨k, h⟩ 0), (tiles c XQ f6 f8 f9 arg0 harg0 arg1 harg1 arg5 harg5 ⟨k, h⟩).1⟩]
    else yAcc f k

theorem yAcc_next (k : Fin k0_t2_loop.trips) (f : Bf (F := F) c arg5) :
    yAcc c XQ f6 f8 f9 arg0 harg0 arg1 harg1 arg5 harg5 f (k.val + 1) = arg5.view.writes (Elt F) (yAcc c XQ f6 f8 f9 arg0 harg0 arg1 harg1 arg5 harg5 f k.val)
      [⟨Rect.unit (s := S8x17920) (k0_off49 k 256#32) S8x256.size (k0_off49_inb k 1), (tiles c XQ f6 f8 f9 arg0 harg0 arg1 harg1 arg5 harg5 k).2⟩,
       ⟨Rect.unit (s := S8x17920) (k0_off49 k 0#32) S8x256.size (k0_off49_inb k 0), (tiles c XQ f6 f8 f9 arg0 harg0 arg1 harg1 arg5 harg5 k).1⟩] := by
  rw [yAcc, dif_pos k.isLt]

theorem filled_yAcc (f : Bf (F := F) c arg5) : ∀ k, k ≤ k0_t2_loop.trips →
    filled c XQ f6 f8 f9 arg0 harg0 arg1 harg1 arg5 harg5 k (yAcc c XQ f6 f8 f9 arg0 harg0 arg1 harg1 arg5 harg5 f k)
  | 0, _ => filled_zero c XQ f6 f8 f9 arg0 harg0 arg1 harg1 arg5 harg5 _
  | k + 1, h => by
    rw [yAcc_next c XQ f6 f8 f9 arg0 harg0 arg1 harg1 arg5 harg5 ⟨k, h⟩ f]
    exact filled_next c XQ f6 f8 f9 arg0 harg0 arg1 harg1 arg5 harg5 ⟨k, h⟩ _ (filled_yAcc f k (Nat.le_of_succ_le h))

/-- After the last trip the result's buffer reads as the result. -/
theorem read_yAcc (f : Bf (F := F) c arg5) :
    arg5.view.read (Elt F) (yAcc c XQ f6 f8 f9 arg0 harg0 arg1 harg1 arg5 harg5 f k0_t2_loop.trips) = resultY c XQ f6 f8 f9 arg0 harg0 arg1 harg1 arg5 harg5 :=
  filled_all c XQ f6 f8 f9 arg0 harg0 arg1 harg1 arg5 harg5 (filled_yAcc c XQ f6 f8 f9 arg0 harg0 arg1 harg1 arg5 harg5 f _ le_rfl)

variable (f5 : Bf (F := F) c arg5)

set_option warn.classDefReducibility false in
/-- The main loop's invariant. -/
@[sl_loop] def loopInv2 :
    LoopInvTy_k0_t2 (F := F) Unit ℕ (Pipeline.UD sig nD τ) ℕ 𝒱₀ c none Set.univ arg0 harg0 arg1 harg1 qM (Memref.isWhole_whole _) sM (Memref.isWhole_whole _) zM (Memref.isWhole_whole _) arg5 harg5
      xpM (Memref.isWhole_whole _) bufM (Memref.isWhole_whole _) svM (Memref.isWhole_whole _) zvM (Memref.isWhole_whole _)
      sbM (Memref.isWhole_whole _) zbM (Memref.isWhole_whole _) cc0_scratch6 cc0_scratch7 cc0_scratch8 where
  inv k _ := iprop(ring c XQ k0_t1_loop.trips k ∗ pt c xpM f6 ∗ pt c svM f8 ∗ pt c zvM f9 ∗ (∃ f, pt c sbM f) ∗ (∃ f, pt c zbM f)
    ∗ pt c arg5 (yAcc c XQ f6 f8 f9 arg0 harg0 arg1 harg1 arg5 harg5 f5 k) ∗ ∃ W, owes (c : Thread nD τ) 0 W)
  step k _ := by
    rw [ring_drain, ring_drain]
    have eh := fam_here (doneP c XQ) (flightP c XQ) (ix2 k)
    have en := fam_next (doneP c XQ) (flightP c XQ) (ix2 k)
    rw [show (ix2 k).val = k.val from rfl] at eh en
    rw [eh, en, yAcc_next]
    iintro ⟨⟨HF, Hrest⟩, H6, H8, H9, ⟨%f10, H10⟩, ⟨%f11, H11⟩, H5, ⟨%W, HW⟩⟩
    iapply (wp_wand_r Idealize.ShloMosaic.frame (wpE (defs₀ (F := F)) 𝒱₀ (c : Thread nD τ) none) Set.univ)
    isplitl [HF H6 H8 H9 H10 H11 H5 HW]
    · iapply ((tripRun c XQ f6 f8 f9 arg0 harg0 arg1 harg1 arg5 harg5 k).2 _ f10 f11 W)
      isplitl [HF]; · iexact HF
      isplitl [H6]; · iexact H6
      isplitl [H8]; · iexact H8
      isplitl [H9]; · iexact H9
      isplitl [H10]; · iexact H10
      isplitl [H11]; · iexact H11
      isplitl [H5]; · iexact H5
      iexact HW
    · iintro %_ ⟨HD, H6, H8, H9, H10, H11, H5, HW⟩
      isplitl [HD Hrest]
      · isplitl [HD]; · iexact HD
        iexact Hrest
      isplitl [H6]; · iexact H6
      isplitl [H8]; · iexact H8
      isplitl [H9]; · iexact H9
      isplitl [H10]; · iexact H10
      isplitl [H11]; · iexact H11
      isplitl [H5]; · iexact H5
      iexact HW

end Result

section Body
variable (c : Dev nD) (XQ : Bf (F := F) c qM) (XS : Bf (F := F) c sM) (XZ : Bf (F := F) c zM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)
  (f0 : Bf (F := F) c arg0) (f1 : Bf (F := F) c arg1)

abbrev bodyP : Prog (TpuEff nD τ sig (Elt F) Λ₀ .tc) Unit :=
  cc0_gptq_int4_linear (F := F) arg0 harg0 arg1 harg1 qM (Memref.isWhole_whole _) sM (Memref.isWhole_whole _) zM (Memref.isWhole_whole _) arg5 harg5
    xpM (Memref.isWhole_whole _) bufM (Memref.isWhole_whole _) svM (Memref.isWhole_whole _) zvM (Memref.isWhole_whole _)
    sbM (Memref.isWhole_whole _) zbM (Memref.isWhole_whole _) cc0_scratch6 cc0_scratch7 cc0_scratch8

/-- The scales' copy in fast memory, the zero points'. -/
abbrev copyS : Bf (F := F) c svM := ReadAs.same.apply (sM.view.read (Elt F) XS)
abbrev copyZ : Bf (F := F) c zvM := ReadAs.same.apply (zM.view.read (Elt F) XZ)

set_option backward.proofsInPublic true in
set_option sl_exec.resultNames true in
/-- The body's run; the gathered activations are found by it. -/
def bodyRun :
    { w : Bf (F := F) c xpM //
      ∀ (f5 : Bf (F := F) c arg5) (f6 : Bf (F := F) c xpM) (f8 : Bf (F := F) c svM) (f9 : Bf (F := F) c zvM) (f10 : Bf (F := F) c sbM) (f11 : Bf (F := F) c zbM) (W : Waits sig Unit),
      iprop(pt c arg0 f0 ∗ pt c arg1 f1 ∗ pt c sM XS ∗ pt c zM XZ ∗ pt c arg5 f5 ∗ pt c xpM f6 ∗ pt c svM f8 ∗ pt c zvM f9 ∗ pt c sbM f10 ∗ pt c zbM f11
        ∗ ring c XQ 0 0 ∗ semVal ((c : Thread nD τ), SemLoc.dma cc0_scratch7.sem) 0 ∗ semVal ((c : Thread nD τ), SemLoc.dma cc0_scratch8.sem) 0 ∗ owes (c : Thread nD τ) 0 W)
      ⊢ wp frame (wpE (defs₀ (F := F)) 𝒱₀ (c : Thread nD τ) none) Set.univ (bodyP arg0 harg0 arg1 harg1 arg5 harg5)
        (fun _ => iprop(pt c arg0 f0 ∗ pt c arg1 f1 ∗ pt c sM XS ∗ pt c zM XZ
          ∗ pt c arg5 (yAcc c XQ w (copyS c XS) (copyZ c XZ) arg0 harg0 arg1 harg1 arg5 harg5 f5 k0_t2_loop.trips)
          ∗ (∃ f, pt c xpM f) ∗ (∃ f, pt c svM f) ∗ (∃ f, pt c zvM f) ∗ (∃ f, pt c sbM f) ∗ (∃ f, pt c zbM f)
          ∗ ring c XQ k0_t1_loop.trips k0_t2_loop.trips ∗ semVal ((c : Thread nD τ), SemLoc.dma cc0_scratch7.sem) 0 ∗ semVal ((c : Thread nD τ), SemLoc.dma cc0_scratch8.sem) 0
          ∗ ∃ W, owes (c : Thread nD τ) 0 W)) } := by
  refine ⟨?_, fun f5 f6 f8 f9 f10 f11 W => ?run⟩
  case run =>
    iintro ⟨H0, H1, HS, HZ, H5, H6, H8, H9, H10, H11, HI, Hc7, Hc8, HW⟩
    dsimp only [bodyP]
    sl_exec_parts!
    sl_step
    isplitl [H0]; · iexact H0
    isplitl [H1]; · iexact H1
    isplitl [HS]; · iexact HS
    isplitl [HZ]; · iexact HZ
    isplitl [H5]
    · rw [show View.write (Elt F) svM.view f8 (bodyRun.sl.dma0 c XS) Finset.univ = copyS c XS from View.write_whole_univ _ _ _,
        show View.write (Elt F) zvM.view f9 (bodyRun.sl.dma0_1 c XZ) Finset.univ = copyZ c XZ from View.write_whole_univ _ _ _]
      iexact H5
    isplitl [H6]; · iexists _; iexact H6
    isplitl [H8]; · iexists _; iexact H8
    isplitl [H9]; · iexists _; iexact H9
    isplitl [H10]; · iexists _; iexact H10
    isplitl [H11]; · iexists _; iexact H11
    isplitl [HI]; · iexact HI
    isplitl [Hc7]; · iexact Hc7
    isplitl [Hc8]; · iexact Hc8
    iexists _; iexact HW

end Body

end Cert.Kernel.Hand

end
-- ==== Proof.KernelLaunch.lean ====
/-
  The run of `Kernel`: the body's obligation at the pipeline's one grid point, the launch, the frame, and the result's
  array as the body leaves it.
-/
module

public import proofs.«01_k».proof.Proof.KernelBody
public import proofs.«01_k».proof.Proof.Gen.Kernel.Frame
public import proofs.«01_k».proof.Proof.Gen.Kernel.Points

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The ring at rest and the ring delivered, from and to the buffers held whole -/

section Deal
variable (c : Dev nD) (XQ : Bf (F := F) c qM)

theorem homes_eq : pt c qM XQ = bigSep Finset.univ (fun b : Fin 35 => homeP c XQ b) := by
  refine (Ring.pointsTo_blocks (ℓ := qM.view.loc (c : Thread nD τ)) QB QB_disjoint QB_cover XQ).trans ?_
  refine bigSep_congr fun b _ => ?_
  show _ = ((blkQ b).view.loc (c : Thread nD τ) ↦[(blkQ b).view.set]{fullShare} XQ)
  rw [blkQ_set]
  rfl
theorem slots_eq (f : Bf (F := F) c bufM) : pt c bufM f = bigSep Finset.univ (fun s : Fin 35 => slotP c s f) := by
  refine (Ring.pointsTo_blocks (ℓ := bufM.view.loc (c : Thread nD τ)) SL SL_disjoint SL_cover f).trans ?_
  refine bigSep_congr fun s _ => ?_
  show _ = ((rslot s).view.loc (c : Thread nD τ) ↦[(rslot s).view.set]{fullShare} f)
  rw [rslot_set]
  rfl

theorem ring_in (f : Bf (F := F) c bufM) :
    iprop(bigSep Finset.univ (fun s : Fin 35 => cellP c s) ∗ pt c bufM f ∗ pt c qM XQ) ⊢ ring c XQ 0 0 := by
  rw [ring_rest, homes_eq, slots_eq]
  rw [show bigSep Finset.univ (fun s : Fin 35 => idleP c XQ s)
      = iprop(bigSep Finset.univ (fun s : Fin 35 => iprop(∃ f, slotP c s f)) ∗ bigSep Finset.univ (fun s : Fin 35 => cellP c s) ∗ bigSep Finset.univ (fun s : Fin 35 => homeP c XQ s))
      from (bigSep_sep _ _ _).trans (congrArg _ (bigSep_sep _ _ _))]
  iintro ⟨HC, HS, HQ⟩
  isplitl [HS]
  · have hx : bigSep Finset.univ (fun s : Fin 35 => slotP c s f) ⊢ bigSep Finset.univ (fun s : Fin 35 => iprop(∃ f, slotP c s f)) :=
      bigSep_mono (fun s _ => exists_intro (Φ := fun f => slotP c s f) f)
    iapply hx; iexact HS
  isplitl [HC]; · iexact HC
  iexact HQ
theorem ring_out :
    ring c XQ k0_t1_loop.trips k0_t2_loop.trips ⊢ iprop(bigSep Finset.univ (fun s : Fin 35 => cellP c s) ∗ (∃ f, pt c bufM f) ∗ pt c qM XQ) := by
  rw [ring_all, homes_eq]
  rw [show bigSep Finset.univ (fun s : Fin 35 => doneP c XQ s)
      = iprop(bigSep Finset.univ (fun s : Fin 35 => slotP c s (bufQ c XQ)) ∗ bigSep Finset.univ (fun s : Fin 35 => cellP c s) ∗ bigSep Finset.univ (fun s : Fin 35 => homeP c XQ s))
      from (bigSep_sep _ _ _).trans (congrArg _ (bigSep_sep _ _ _))]
  rw [← slots_eq]
  iintro ⟨HS, HC, HQ⟩
  isplitl [HC]; · iexact HC
  isplitl [HS]; · iexists _; iexact HS
  iexact HQ

end Deal

/-! ## The kernel's own cells and the operands left in HBM -/

/-- The body's thirty-seven DMA cells: one a slot, the scales', the zero points'. -/
abbrev osem0 : Fin 35 ⊕ Fin 2 → SemLoc sig := Sum.elim (fun s => SemLoc.dma (csm s).sem) ![SemLoc.dma cc0_scratch7.sem, SemLoc.dma cc0_scratch8.sem]
theorem ownSemFacts0 : Pipeline.OwnSemFacts spec0 osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep Finset.univ (fun s : Fin 35 => cellP c s)
          ∗ semVal ((c : Thread nD τ), SemLoc.dma cc0_scratch7.sem) 0 ∗ semVal ((c : Thread nD τ), SemLoc.dma cc0_scratch8.sem) 0) := by
  unfold Pipeline.ownSems0
  rw [bigSep_univ_sum]
  refine congrArg _ ?_
  rw [bigSep_univ_eq_bigSepL [0, 1] (by decide) (by decide)]
  first | done | rfl
/-- The operands the body's own transfers read. -/
def H0 : Finset (Ref sig .tc) := {main_arg1, main_arg2, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c qM (V m c main_arg1) ∗ pt c sM (V m c main_arg2) ∗ pt c zM (V m c main_arg3)) := by
  rw [BI.bigSep_eq_bigSepL_of_eq [main_arg1, main_arg2, main_arg3] (by decide) (by decide)]
  first | done | rfl

theorem PhiD0_eq (c : Dev nD) :
    (Pipeline.ΦD osem0 spec0 H0 (V m) c : sProp 𝕄)
      = iprop(iprop((∃ f, pt c xpM f) ∗ (∃ f, pt c bufM f) ∗ (∃ f, pt c svM f) ∗ (∃ f, pt c zvM f) ∗ (∃ f, pt c sbM f) ∗ (∃ f, pt c zbM f))
          ∗ (∃ r, prngReg c r)
          ∗ iprop(bigSep Finset.univ (fun s : Fin 35 => cellP c s)
              ∗ semVal ((c : Thread nD τ), SemLoc.dma cc0_scratch7.sem) 0 ∗ semVal ((c : Thread nD τ), SemLoc.dma cc0_scratch8.sem) 0)
          ∗ iprop(pt c qM (V m c main_arg1) ∗ pt c sM (V m c main_arg2) ∗ pt c zM (V m c main_arg3))) := by
  rw [Pipeline.ΦD_eq, scopedRest0_eq, ownSems00_eq, hbmPts0_eq]

/-! ## The proof data -/

abbrev hst0_0 (t : Fin cfg0.N) : (st0_0 t).IsWhole := hstage0_0 0
abbrev hst0_1 (t : Fin cfg0.N) : (st0_1 t).IsWhole := hstage0_1 0
abbrev hst0_2 (t : Fin cfg0.N) : (st0_2 t).IsWhole := hstage0_2 0

/-- The staged activations' buffer and the staged permutation's, at their blocks. -/
abbrev xbuf (c : Dev nD) (t : Fin cfg0.N) : Bf (F := F) c (st0_0 t) := (st0_0 t).view.rep (iblk m c 0 t)
abbrev pbuf (c : Dev nD) (t : Fin cfg0.N) : Bf (F := F) c (st0_1 t) := (st0_1 t).view.rep (iblk m c 1 t)

/-- The gathered activations. -/
abbrev gathered (c : Dev nD) (t : Fin cfg0.N) : Bf (F := F) c xpM :=
  (bodyRun c (V m c main_arg1) (V m c main_arg2) (V m c main_arg3) (st0_0 t) (hst0_0 t) (st0_1 t) (hst0_1 t) (st0_2 t) (hst0_2 t) (xbuf m c t) (pbuf m c t)).1

/-- The result the body leaves. -/
def outY (c : Dev nD) (t : Fin cfg0.N) : S8x17920.Idx → Elt F .bf16 :=
  resultY c (V m c main_arg1) (gathered m c t) (copyS c (V m c main_arg2)) (copyZ c (V m c main_arg3)) (st0_0 t) (hst0_0 t) (st0_1 t) (hst0_1 t) (st0_2 t) (hst0_2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outY m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outY m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before0_1 (c : Dev nD) (t : Fin cfg0.N) (d) : (dats m 0 c).before 1 t d = iblk m c 1 t := by
  unfold Dat.before; rw [if_pos (fetch0_1 t)]; unfold Dat.fetched Dat.blockOf iblk; dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- A whole memref held by its own elements is held whole. -/
theorem whole_pt (c : Dev nD) {sp : Space} {S : Shape} {e : EltTy} (M : Memref sig .tc sp S e) (h : M.IsWhole) (f : Bf (F := F) c M) :
    (M.view.loc (c : Thread nD τ) ↦[M.view.set]{fullShare} f : sProp 𝕄) = pt c M f := by
  rw [h.set_eq_univ]

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, after0_0, after0_1, after0_2]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨⟨%f6, H6⟩, ⟨%f7, H7⟩, ⟨%f8, H8⟩, ⟨%f9, H9⟩, ⟨%f10, H10⟩, ⟨%f11, H11⟩⟩, Hg, ⟨HC, Hc7, Hc8⟩, ⟨HQ, HS, HZ⟩⟩, ⟨%W, -, HW⟩, ⟨%d0, %g0, %hg0, H0⟩, ⟨%d1, %g1, %hg1, H1⟩, ⟨%d2, %g2, -, H2⟩⟩
  ihave H0' := (pointsTo_rep_entails (c : Thread nD τ) (st0_0 t) g0 fullShare) $$ H0
  ihave H1' := (pointsTo_rep_entails (c : Thread nD τ) (st0_1 t) g1 fullShare) $$ H1
  ihave H2' := (entails_of_eq (whole_pt c (st0_2 t) (hst0_2 t) g2)) $$ H2
  rw [hg0, hg1]
  iapply (wp_wand_r Idealize.ShloMosaic.frame (wpE (defs₀ (F := F)) 𝒱₀ (c : Thread nD τ) none) Set.univ)
  isplitl [H6 H7 H8 H9 H10 H11 HC Hc7 Hc8 HQ HS HZ HW H0' H1' H2']
  · iapply ((bodyRun c (V m c main_arg1) (V m c main_arg2) (V m c main_arg3) (st0_0 t) (hst0_0 t) (st0_1 t) (hst0_1 t) (st0_2 t) (hst0_2 t) (xbuf m c t) (pbuf m c t)).2 g2 f6 f8 f9 f10 f11 W)
    isplitl [H0']; · iapply (entails_of_eq (whole_pt c (st0_0 t) (hst0_0 t) (xbuf m c t))); iexact H0'
    isplitl [H1']; · iapply (entails_of_eq (whole_pt c (st0_1 t) (hst0_1 t) (pbuf m c t))); iexact H1'
    isplitl [HS]; · iexact HS
    isplitl [HZ]; · iexact HZ
    isplitl [H2']; · iexact H2'
    isplitl [H6]; · iexact H6
    isplitl [H8]; · iexact H8
    isplitl [H9]; · iexact H9
    isplitl [H10]; · iexact H10
    isplitl [H11]; · iexact H11
    isplitl [HC H7 HQ]
    · iapply (ring_in c (V m c main_arg1) f7)
      isplitl [HC]; · iexact HC
      isplitl [H7]; · iexact H7
      iexact HQ
    isplitl [Hc7]; · iexact Hc7
    isplitl [Hc8]; · iexact Hc8
    iexact HW
  · iintro %_ ⟨H0, H1, HS, HZ, H2, H6, H8, H9, H10, H11, HR, Hc7, Hc8, ⟨%W', HW'⟩⟩
    ihave HR' := (ring_out c (V m c main_arg1)) $$ HR
    icases HR' with ⟨HC, H7, HQ⟩
    isplitl [H6 H7 H8 H9 H10 H11 Hg HC Hc7 Hc8 HQ HS HZ]
    · isplitl [H6 H7 H8 H9 H10 H11]
      · isplitl [H6]; · iexact H6
        isplitl [H7]; · iexact H7
        isplitl [H8]; · iexact H8
        isplitl [H9]; · iexact H9
        isplitl [H10]; · iexact H10
        iexact H11
      isplitl [Hg]; · iexact Hg
      isplitl [HC Hc7 Hc8]
      · isplitl [HC]; · iexact HC
        isplitl [Hc7]; · iexact Hc7
        iexact Hc8
      isplitl [HQ]; · iexact HQ
      isplitl [HS]; · iexact HS
      iexact HZ
    isplitl [HW']
    · iexists W'; isplitr; · ipureintro; exact fun _ _ => Or.inl trivial
      iexact HW'
    isplitl [H0]
    · iexists (xbuf m c t); isplitr; · ipureintro; exact View.read_rep _ _
      iapply (entails_of_eq (whole_pt c (st0_0 t) (hst0_0 t) (xbuf m c t)).symm); iexact H0
    isplitl [H1]
    · iexists (pbuf m c t); isplitr; · ipureintro; exact View.read_rep _ _
      iapply (entails_of_eq (whole_pt c (st0_1 t) (hst0_1 t) (pbuf m c t)).symm); iexact H1
    iexists _
    isplitr
    swap; · iapply (entails_of_eq (whole_pt c (st0_2 t) (hst0_2 t) _).symm); iexact H2
    ipureintro
    exact read_yAcc c _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

set_option backward.isDefEq.respectTransparency.types false in
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

theorem hmain : Pipeline.HMain (Ix := Unit) (Name := ℕ) (U := Pipeline.UD sig nD τ) (Lvl := ℕ) cfgs 0 defs₀ 𝒱₀ m main (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V := V m) (hmain := hmain m) (hA := A_eq m)
    (hin := fun _ => .rfl) (hout := fun _ => .rfl)

/-- The arguments' arrays after the run: unchanged. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩) (run_main m ρ)

end Cert.Kernel.Hand

end
-- ==== Proof.KernelIdealSlots.lean ====
/-
  The kernel's one buffer of quantised weights and the transfers that fill it, for `KernelIdeal`: column block `b` of the
  weights left in HBM, slot `s` of the buffer, slot `s`'s DMA cell, under canonical names; a slot at rest, in flight,
  delivered; and the invariant of the loop that issues the thirty-five transfers.
-/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.KitQuiescent
public import Idealize.ShloMosaic.Lib.Pipeline.Frame
public import Idealize.ShloMosaic.Lib.Ring
public import Idealize.ShloMosaic.Lib.Affine
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

local notation "𝕄" => MT nD τ sig Unit (Elt F) ℕ (Pipeline.UD sig nD τ) ℕ
abbrev 𝒱₀ : Variants := Variants.none

omit [FloatOps F] in
theorem entails_of_eq {P Q : sProp 𝕄} (e : P = Q) : P ⊢ Q := e ▸ .rfl

/-! ## Canonical names: column block `b`, slot `s`, slot `s`'s cell -/

abbrev qM : Memref sig .tc .hbm S2560x17920 .i8 := Memref.whole main_arg1
abbrev sM : Memref sig .tc .hbm S40x17920 .bf16 := Memref.whole main_arg2
abbrev zM : Memref sig .tc .hbm S20x17920 .i8 := Memref.whole main_arg3
abbrev xpM : Memref sig .tc .vmem S8x5120 .bf16 := Memref.whole cc0_scratch0
abbrev bufM : Memref sig .tc .vmem S35x2560x512 .i8 := Memref.whole cc0_scratch1
abbrev svM : Memref sig .tc .vmem S40x17920 .bf16 := Memref.whole cc0_scratch2
abbrev zvM : Memref sig .tc .vmem S20x17920 .i8 := Memref.whole cc0_scratch3
abbrev sbM : Memref sig .tc .vmem S40x2x512 .bf16 := Memref.whole cc0_scratch4
abbrev zbM : Memref sig .tc .vmem S40x2x512 .bf16 := Memref.whole cc0_scratch5

abbrev colOff (b : Fin 35) : Fin 2 → Nat := ![0, 512 * b.val]
theorem colOff_inb (b : Fin 35) : ∀ a, colOff b a + S2560x512.size a ≤ S2560x17920.size a := by
  have := b.isLt; intro a; fin_cases a
  · show 0 + 2560 ≤ 2560; omega
  · show 512 * b.val + 512 ≤ 17920; omega
abbrev slotOff (s : Fin 35) : Fin 3 → Nat := ![s.val, 0, 0]
theorem slotOff_inb (s : Fin 35) : ∀ a, slotOff s a + S1x2560x512.size a ≤ S35x2560x512.size a := by
  have := s.isLt; intro a; fin_cases a
  · show s.val + 1 ≤ 35; omega
  · show 0 + 2560 ≤ 2560; omega
  · show 0 + 512 ≤ 512; omega
abbrev semOff (s : Fin 35) : Fin 1 → Nat := ![s.val]
theorem semOff_inb (s : Fin 35) : ∀ a, semOff s a + S1.size a ≤ S35.size a := by
  have := s.isLt; intro a; fin_cases a; show s.val + 1 ≤ 35; omega

/-- Column block `b` of the weights, as the body slices it. -/
def blkQ (b : Fin 35) : Memref sig .tc .hbm S2560x512 .i8 :=
  qM.slice (Rect.unit (s := S2560x17920) (colOff b) S2560x512.size (colOff_inb b)) (fun _ => rfl)
/-- Slot `s` of the buffer, as the body slices and squeezes it. -/
def rslot (s : Fin 35) : Memref sig .tc .vmem S2560x512 .i8 :=
  (bufM.slice (Rect.unit (s := S35x2560x512) (slotOff s) S1x2560x512.size (slotOff_inb s)) (fun _ => rfl)).squeeze S2560x512 squeezes_S1x2560x512_S2560x512
/-- Slot `s`'s DMA semaphore. -/
def csm (s : Fin 35) : DmaSems sig S_ := (cc0_scratch6.slice (Rect.unit (s := S35) (semOff s) S1.size (semOff_inb s))).squeeze S_ squeezes_S1_S_

instance (s : Fin 35) : ClosedOff (slotOff s) := ⟨slotOff s, rfl⟩
instance (b : Fin 35) : ClosedOff (colOff b) := ⟨colOff b, rfl⟩

theorem trips1_eq : k0_t1_loop.trips = 35 := by decide +kernel
theorem trips2_eq : k0_t2_loop.trips = 35 := by decide +kernel
/-- Trip `k` of either loop works on slot `k`. -/
def ix1 (k : Fin k0_t1_loop.trips) : Fin 35 := ⟨k.val, Nat.lt_of_lt_of_eq k.isLt trips1_eq⟩
def ix2 (k : Fin k0_t2_loop.trips) : Fin 35 := ⟨k.val, Nat.lt_of_lt_of_eq k.isLt trips2_eq⟩

/-! ### The canonical-name equations: the body's slices are `csm`, `rslot`, `blkQ` -/

private theorem csm_congr {off : Fin 1 → Nat} {s : Fin 35} (e : off = semOff s) (hh) :
    (cc0_scratch6.slice (Rect.unit (s := S35) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 35} (e : off = slotOff s) (hh hs) :
    (bufM.slice (Rect.unit (s := S35x2560x512) off S1x2560x512.size hh) hs).squeeze S2560x512 squeezes_S1x2560x512_S2560x512 = rslot s :=
  congrArg (fun M : Memref sig .tc .vmem S1x2560x512 .i8 => M.squeeze S2560x512 squeezes_S1x2560x512_S2560x512) (Memref.slice_unit_congr _ e _ _ _ _)
private theorem blkQ_congr {off : Fin 2 → Nat} {b : Fin 35} (e : off = colOff b) (hh hs) :
    qM.slice (Rect.unit (s := S2560x17920) off S2560x512.size hh) hs = blkQ b :=
  Memref.slice_unit_congr _ e _ _ hs (fun _ => rfl)

@[sl_canon] theorem sem1 (k : Fin k0_t1_loop.trips) (hh) :
    (cc0_scratch6.slice (Rect.unit (s := S35) (k0_off1 k) S1.size hh)).squeeze S_ squeezes_S1_S_ = csm (ix1 k) := csm_congr (k0_off1_eq k) _
@[sl_canon] theorem slot1 (k : Fin k0_t1_loop.trips) (hh hs) :
    (bufM.slice (Rect.unit (s := S35x2560x512) (k0_off2 k) S1x2560x512.size hh) hs).squeeze S2560x512 squeezes_S1x2560x512_S2560x512 = rslot (ix1 k) := rslot_congr (k0_off2_eq k) _ _
@[sl_canon] theorem blk1 (k : Fin k0_t1_loop.trips) (hh hs) :
    qM.slice (Rect.unit (s := S2560x17920) (k0_off3 k) S2560x512.size hh) hs = blkQ (ix1 k) := blkQ_congr (k0_off3_eq k) _ _
@[sl_canon] theorem sem2 (k : Fin k0_t2_loop.trips) (hh) :
    (cc0_scratch6.slice (Rect.unit (s := S35) (k0_off6 k) S1.size hh)).squeeze S_ squeezes_S1_S_ = csm (ix2 k) := csm_congr (k0_off6_eq k) _
@[sl_canon] theorem slot2 (k : Fin k0_t2_loop.trips) (hh hs) :
    (bufM.slice (Rect.unit (s := S35x2560x512) (k0_off7 k) S1x2560x512.size hh) hs).squeeze S2560x512 squeezes_S1x2560x512_S2560x512 = rslot (ix2 k) := rslot_congr (k0_off7_eq k) _ _
@[sl_canon] theorem blk2 (k : Fin k0_t2_loop.trips) (hh hs) :
    qM.slice (Rect.unit (s := S2560x17920) (k0_off8 k) S2560x512.size hh) hs = blkQ (ix2 k) := blkQ_congr (k0_off8_eq k) _ _

/-! ## Element sets: the weights' column blocks, the buffer's slots -/

abbrev QB (b : Fin 35) : Finset S2560x17920.Idx := (Rect.unit (s := S2560x17920) (colOff b) S2560x512.size (colOff_inb b)).set
abbrev SL (s : Fin 35) : Finset S35x2560x512.Idx := (Rect.unit (s := S35x2560x512) (slotOff s) S1x2560x512.size (slotOff_inb s)).set

theorem blkQ_set (b : Fin 35) : (blkQ b : Memref sig .tc .hbm _ _).view.set = QB b := View.set_slice_whole _ _
theorem rslot_set (s : Fin 35) : (rslot s : Memref sig .tc .vmem _ _).view.set = SL s := (View.set_reshape _ _).trans (View.set_slice_whole _ _)

theorem mem_QB (b : Fin 35) (y : S2560x17920.Idx) : y ∈ QB b ↔ (y 1).val / 512 = b.val := by
  rw [Rect.mem_set_unit]
  have h0 : (y 0).val < 2560 := (y 0).isLt
  have h1 : (y 1).val < 17920 := (y 1).isLt
  constructor
  · intro H; have a1 : 512 * b.val ≤ (y 1).val ∧ (y 1).val < 512 * b.val + 512 := H 1; omega
  · intro H i; fin_cases i
    · show 0 ≤ (y 0).val ∧ (y 0).val < 0 + 2560; omega
    · show 512 * b.val ≤ (y 1).val ∧ (y 1).val < 512 * b.val + 512; omega
theorem mem_SL (s : Fin 35) (y : S35x2560x512.Idx) : y ∈ SL s ↔ (y 0).val = s.val := by
  rw [Rect.mem_set_unit]
  have h1 : (y 1).val < 2560 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 512; omega
theorem QB_disjoint : ∀ b b' : Fin 35, b ≠ b' → Disjoint (QB b) (QB b') := by
  intro b b' hne; rw [Finset.disjoint_left]; intro y hy hy'; rw [mem_QB] at hy hy'; exact hne (Fin.ext (hy.symm.trans hy'))
theorem QB_cover : (Finset.univ : Finset (Fin 35)).biUnion QB = Finset.univ := by
  ext y; simp only [Finset.mem_biUnion, Finset.mem_univ, true_and, iff_true]
  have h1 : (y 1).val < 17920 := (y 1).isLt
  exact ⟨⟨(y 1).val / 512, by omega⟩, by rw [mem_QB]⟩
theorem SL_disjoint : ∀ s s' : Fin 35, s ≠ s' → Disjoint (SL s) (SL s') := by
  intro s s' hne; rw [Finset.disjoint_left]; intro y hy hy'; rw [mem_SL] at hy hy'; exact hne (Fin.ext (hy.symm.trans hy'))
theorem SL_cover : (Finset.univ : Finset (Fin 35)).biUnion SL = Finset.univ := by
  ext y; simp only [Finset.mem_biUnion, Finset.mem_univ, true_and, iff_true]
  have h0 : (y 0).val < 35 := (y 0).isLt
  exact ⟨⟨(y 0).val, h0⟩, by rw [mem_SL]⟩

/-- A box of slot `k` read through the whole buffer lies in the slot. -/
theorem slot_sub (k : Fin k0_t2_loop.trips) {off : Fin 3 → Nat} {r n : ℕ} (e : off = ![k.val, r, n])
    (h : ∀ a, off a + S1x64x256.size a ≤ S35x2560x512.size a) :
    LE.le (α := Finset (rslot (ix2 k)).view.ty.Idx) (bufM.access (Rect.unit (s := S35x2560x512) off S1x64x256.size h)).set (rslot (ix2 k)).view.set := by
  subst e
  have hU : (bufM.access (Rect.unit (s := S35x2560x512) ![k.val, r, n] S1x64x256.size h)).set
      = (Rect.unit (s := S35x2560x512) ![k.val, r, n] S1x64x256.size h).set := View.set_slice_whole _ _
  have hsub : (Rect.unit (s := S35x2560x512) ![k.val, r, n] S1x64x256.size h).set ⊆ SL (ix2 k) := by
    intro y hy
    rw [Rect.mem_set_unit] at hy
    rw [mem_SL]
    have a0 : k.val ≤ (y 0).val ∧ (y 0).val < k.val + 1 := hy 0
    show (y 0).val = k.val
    omega
  exact (hU.le.trans hsub).trans (rslot_set (ix2 k)).ge

/-! ## The pieces: a block home, a slot held, a slot's cell, a slot in flight -/

section Pieces
variable (c : Dev nD) (XQ : Buf (Elt F) (qM.view.loc (c : Thread nD τ)))

abbrev cellP (s : Fin 35) : sProp 𝕄 := semVal ((c : Thread nD τ), SemLoc.dma (csm s).sem) 0
abbrev slotP (s : Fin 35) (f : Buf (Elt F) ((rslot s).view.loc (c : Thread nD τ))) : sProp 𝕄 :=
  (rslot s).view.loc (c : Thread nD τ) ↦[(rslot s).view.set]{fullShare} f
/-- Block `b` HOME: held on its elements at the weights' contents. -/
abbrev homeP (b : Fin 35) : sProp 𝕄 := (blkQ b).view.loc (c : Thread nD τ) ↦[(blkQ b).view.set]{fullShare} XQ
/-- Block `b`'s elements as a slot's payload. -/
abbrev payload (b : Fin 35) : S2560x512.Idx → Elt F .i8 := ReadAs.same.apply ((blkQ b).view.read (Elt F) XQ)
/-- What block `s`'s transfer leaves in slot `s` over prior contents `f`: the block, written whole. -/
abbrev landed (s : Fin 35) (f : Buf (Elt F) ((rslot s).view.loc (c : Thread nD τ))) : Buf (Elt F) ((rslot s).view.loc (c : Thread nD τ)) :=
  (rslot s).view.writes (Elt F) f [⟨Rect.whole S2560x512, payload c XQ s⟩]
/-- The buffer's contents once every slot is delivered. -/
def bufQ : Buf (Elt F) (bufM.view.loc (c : Thread nD τ)) := fun i : S35x2560x512.Idx =>
  ((rslot (i 0)).view.writes (Elt F) (rslot (i 0)).view.junk [⟨Rect.whole S2560x512, payload c XQ (i 0)⟩] : S35x2560x512.Idx → Elt F .i8) i

/-- A slot delivered over any contents is the slot at the delivered buffer. -/
theorem landed_eq (s : Fin 35) (f : Buf (Elt F) ((rslot s).view.loc (c : Thread nD τ))) :
    slotP c s (landed c XQ s f) = slotP c s (bufQ c XQ) := by
  have e1 : slotP c s (landed c XQ s f) = slotP c s (landed c XQ s (rslot s).view.junk) :=
    pointsTo_writes_whole_rebase (Ix := Unit) (Name := ℕ) (U := Pipeline.UD sig nD τ) (Lvl := ℕ) (c : Thread nD τ) (rslot s) _ _ _ _
  refine e1.trans (pointsTo_congr fun y hy => ?_)
  rw [rslot_set] at hy
  have hs : (show S35x2560x512.Idx from y) 0 = s := Fin.ext ((mem_SL s y).1 hy)
  show _ = bufQ c XQ y
  unfold bufQ
  rw [hs]

/-- A block's transfer moves this many units on its cell. -/
abbrev NN : ℕ := 40960
/-- Slot `s` IN FLIGHT with block `s`. -/
abbrev flightP (s : Fin 35) : sProp 𝕄 :=
  Transfers.Flight countersEmb (c : Thread nD τ) (SemLoc.dma (csm s).sem) () NN iprop(slotP c s (bufQ c XQ) ∗ homeP c XQ s)
/-- Slot `s` AT REST: held at anything, its cell at zero, its block home. -/
abbrev idleP (s : Fin 35) : sProp 𝕄 := iprop((∃ f, slotP c s f) ∗ cellP c s ∗ homeP c XQ s)

/-- Slot `s` DELIVERED: held at the delivered buffer, its cell at zero, its block home. -/
abbrev doneP (s : Fin 35) : sProp 𝕄 := iprop(slotP c s (bufQ c XQ) ∗ cellP c s ∗ homeP c XQ s)

/-- The thirty-five slots: those below `b` delivered, the next ones below `a` in flight, the others at rest. -/
@[irreducible] def ring (a b : ℕ) : sProp 𝕄 :=
  bigSep Finset.univ (fun s : Fin 35 => if s.val < b then doneP c XQ s else if s.val < a then flightP c XQ s else idleP c XQ s)

theorem ring_issue (a : ℕ) : ring c XQ a 0 = bigSep Finset.univ (fun s : Fin 35 => if s.val < a then flightP c XQ s else idleP c XQ s) := by
  unfold ring
  exact bigSep_congr fun s _ => if_neg (Nat.not_lt_zero _)
theorem ring_drain (b : ℕ) : ring c XQ k0_t1_loop.trips b = bigSep Finset.univ (fun s : Fin 35 => if s.val < b then doneP c XQ s else flightP c XQ s) := by
  unfold ring
  refine bigSep_congr fun s _ => ?_
  rw [if_pos (show s.val < k0_t1_loop.trips by rw [trips1_eq]; exact s.isLt)]
theorem ring_rest : ring c XQ 0 0 = bigSep Finset.univ (fun s : Fin 35 => idleP c XQ s) := by
  rw [ring_issue]
  exact bigSep_congr fun s _ => if_neg (Nat.not_lt_zero _)
theorem ring_all : ring c XQ k0_t1_loop.trips k0_t2_loop.trips = bigSep Finset.univ (fun s : Fin 35 => doneP c XQ s) := by
  rw [ring_drain]
  exact bigSep_congr fun s _ => if_pos (by rw [trips2_eq]; exact s.isLt)

omit [FloatOps F] in
/-- A family that is `A` below `k` and `B` from `k` on: member `k`, still `B`, beside the rest; -/
theorem fam_here (A B : Fin 35 → sProp 𝕄) (k : Fin 35) :
    bigSep Finset.univ (fun s : Fin 35 => if s.val < k.val then A s else B s)
      = iprop(B k ∗ bigSep (Finset.univ.erase k) (fun s : Fin 35 => if s.val < k.val then A s else B s)) := by
  rw [bigSep_univ_split k, if_neg (Nat.lt_irrefl _)]; rfl
omit [FloatOps F] in
/-- one member on, it is `A` beside the same rest. -/
theorem fam_next (A B : Fin 35 → sProp 𝕄) (k : Fin 35) :
    bigSep Finset.univ (fun s : Fin 35 => if s.val < k.val + 1 then A s else B s)
      = iprop(A k ∗ bigSep (Finset.univ.erase k) (fun s : Fin 35 => if s.val < k.val then A s else B s)) := by
  rw [bigSep_univ_split k, if_pos (Nat.lt_succ_self _)]
  congr 1
  refine bigSep_congr fun s hs => ?_
  have hne : s.val ≠ k.val := fun e => (Finset.mem_erase.1 hs).1 (Fin.ext e)
  by_cases h : s.val < k.val
  · rw [if_pos h, if_pos (by omega)]
  · rw [if_neg h, if_neg (by omega)]

end Pieces

/-! ## The loop that issues the transfers -/

section Issue
variable (c : Dev nD) (XQ : Buf (Elt F) (qM.view.loc (c : Thread nD τ)))
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

abbrev trip1 (k : Fin k0_t1_loop.trips) : Prog (TpuEff nD τ sig (Elt F) Λ₀ .tc) Unit :=
  k0_t1_body (F := F) arg0 harg0 arg1 harg1 qM (Memref.isWhole_whole _) sM (Memref.isWhole_whole _) zM (Memref.isWhole_whole _) arg5 harg5
    xpM (Memref.isWhole_whole _) bufM (Memref.isWhole_whole _) svM (Memref.isWhole_whole _) zvM (Memref.isWhole_whole _)
    sbM (Memref.isWhole_whole _) zbM (Memref.isWhole_whole _) cc0_scratch6 cc0_scratch7 cc0_scratch8 k ()

/-- One trip: slot `k`, at rest, is put in flight. -/
theorem issueRun (k : Fin k0_t1_loop.trips) (W : Waits sig Unit) :
    iprop(ring c XQ k.val 0 ∗ owes (c : Thread nD τ) 0 W)
      ⊢ wp frame (wpE (defs₀ (F := F)) 𝒱₀ (c : Thread nD τ) none) Set.univ (trip1 arg0 harg0 arg1 harg1 arg5 harg5 k)
        (fun _ => iprop(ring c XQ (k.val + 1) 0 ∗ ∃ W, owes (c : Thread nD τ) 0 W)) := by
  rw [ring_issue, ring_issue]
  have eh := fam_here (flightP c XQ) (idleP c XQ) (ix1 k)
  have en := fam_next (flightP c XQ) (idleP c XQ) (ix1 k)
  rw [show (ix1 k).val = k.val from rfl] at eh en
  rw [eh, en]
  iintro ⟨⟨⟨⟨%f, Hs⟩, Hc, Hq⟩, Hrest⟩, HW⟩
  dsimp only [trip1]
  sl_unfold [k0_t1_body]
  sl_exec
  sl_step
  isplitl [Hc Hrest]
  · isplitl [Hc]
    · unfold flightP
      rw [← landed_eq c XQ (ix1 k) f]
      iexact Hc
    iexact Hrest
  iexists _; iexact HW

set_option warn.classDefReducibility false in
/-- The loop's invariant. -/
@[sl_loop] def loopInv1 :
    LoopInvTy_k0_t1 (F := F) Unit ℕ (Pipeline.UD sig nD τ) ℕ 𝒱₀ c none Set.univ arg0 harg0 arg1 harg1 qM (Memref.isWhole_whole _) sM (Memref.isWhole_whole _) zM (Memref.isWhole_whole _) arg5 harg5
      xpM (Memref.isWhole_whole _) bufM (Memref.isWhole_whole _) svM (Memref.isWhole_whole _) zvM (Memref.isWhole_whole _)
      sbM (Memref.isWhole_whole _) zbM (Memref.isWhole_whole _) cc0_scratch6 cc0_scratch7 cc0_scratch8 where
  inv k _ := iprop(ring c XQ k 0 ∗ ∃ W, owes (c : Thread nD τ) 0 W)
  step k _ := by
    iintro ⟨H, ⟨%W, HW⟩⟩
    iapply (issueRun c XQ arg0 harg0 arg1 harg1 arg5 harg5 k W)
    isplitl [H]; · iexact H
    iexact HW

end Issue

end Cert.KernelIdeal.Hand

end
-- ==== Proof.KernelIdealTrip.lean ====
/-
  One trip of `KernelIdeal`'s main loop: slot `k` is waited for, the chunk's scales and zero points are laid out, and the
  chunk's 512 columns of the result are accumulated over the forty groups and stored. What the trip leaves in the
  result's buffer is found by the run.
-/
module

public import proofs.«01_k».proof.Proof.KernelIdealSlots

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Main
variable (c : Dev nD) (XQ : Bf (F := F) c qM) (f6 : Bf (F := F) c xpM) (f8 : Bf (F := F) c svM) (f9 : Bf (F := F) c zvM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

abbrev trip2 (k : Fin k0_t2_loop.trips) : Prog (TpuEff nD τ sig (Elt F) Λ₀ .tc) Unit :=
  k0_t2_body (F := F) arg0 harg0 arg1 harg1 qM (Memref.isWhole_whole _) sM (Memref.isWhole_whole _) zM (Memref.isWhole_whole _) arg5 harg5
    xpM (Memref.isWhole_whole _) bufM (Memref.isWhole_whole _) svM (Memref.isWhole_whole _) zvM (Memref.isWhole_whole _)
    sbM (Memref.isWhole_whole _) zbM (Memref.isWhole_whole _) cc0_scratch6 cc0_scratch7 cc0_scratch8 k ()

set_option backward.proofsInPublic true in
set_option sl_exec.resultNames true in
/-- The two 256-column tiles one trip stores into the result's buffer, with the run: slot `k` in flight becomes slot `k` delivered. -/
def tripRun (k : Fin k0_t2_loop.trips) :
    { w : (S8x256.Idx → Elt F .bf16) × (S8x256.Idx → Elt F .bf16) // ∀ (fo : Bf (F := F) c arg5) (f10 : Bf (F := F) c sbM) (f11 : Bf (F := F) c zbM) (W : Waits sig Unit),
      iprop(flightP c XQ (ix2 k) ∗ pt c xpM f6 ∗ pt c svM f8 ∗ pt c zvM f9 ∗ pt c sbM f10 ∗ pt c zbM f11 ∗ pt c arg5 fo ∗ owes (c : Thread nD τ) 0 W)
      ⊢ wp frame (wpE (defs₀ (F := F)) 𝒱₀ (c : Thread nD τ) none) Set.univ (trip2 arg0 harg0 arg1 harg1 arg5 harg5 k)
        (fun _ => iprop(doneP c XQ (ix2 k) ∗ pt c xpM f6 ∗ pt c svM f8 ∗ pt c zvM f9 ∗ (∃ f, pt c sbM f) ∗ (∃ f, pt c zbM f)
          ∗ pt c arg5 (arg5.view.writes (Elt F) fo
              [⟨Rect.unit (s := S8x17920) (k0_off49 k 256#32) S8x256.size (k0_off49_inb k 1), w.2⟩,
               ⟨Rect.unit (s := S8x17920) (k0_off49 k 0#32) S8x256.size (k0_off49_inb k 0), w.1⟩]) ∗ ∃ W, owes (c : Thread nD τ) 0 W)) } := by
  refine ⟨⟨?_, ?_⟩, fun fo f10 f11 W => ?run⟩
  case run =>
    dsimp only [trip2]
    sl_unfold [k0_t2_body]
    have h9 := slot_sub k (k0_off9_eq k) (k0_off9_inb k)
    have h10 := slot_sub k (k0_off10_eq k) (k0_off10_inb k)
    have h11 := slot_sub k (k0_off11_eq k) (k0_off11_inb k)
    have h12 := slot_sub k (k0_off12_eq k) (k0_off12_inb k)
    have h13 := slot_sub k (k0_off13_eq k) (k0_off13_inb k)
    have h14 := slot_sub k (k0_off14_eq k) (k0_off14_inb k)
    have h15 := slot_sub k (k0_off15_eq k) (k0_off15_inb k)
    have h16 := slot_sub k (k0_off16_eq k) (k0_off16_inb k)
    have h17 := slot_sub k (k0_off17_eq k) (k0_off17_inb k)
    have h18 := slot_sub k (k0_off18_eq k) (k0_off18_inb k)
    have h19 := slot_sub k (k0_off19_eq k) (k0_off19_inb k)
    have h20 := slot_sub k (k0_off20_eq k) (k0_off20_inb k)
    have h21 := slot_sub k (k0_off21_eq k) (k0_off21_inb k)
    have h22 := slot_sub k (k0_off22_eq k) (k0_off22_inb k)
    have h23 := slot_sub k (k0_off23_eq k) (k0_off23_inb k)
    have h24 := slot_sub k (k0_off24_eq k) (k0_off24_inb k)
    have h25 := slot_sub k (k0_off25_eq k) (k0_off25_inb k)
    have h26 := slot_sub k (k0_off26_eq k) (k0_off26_inb k)
    have h27 := slot_sub k (k0_off27_eq k) (k0_off27_inb k)
    have h28 := slot_sub k (k0_off28_eq k) (k0_off28_inb k)
    have h29 := slot_sub k (k0_off29_eq k) (k0_off29_inb k)
    have h30 := slot_sub k (k0_off30_eq k) (k0_off30_inb k)
    have h31 := slot_sub k (k0_off31_eq k) (k0_off31_inb k)
    have h32 := slot_sub k (k0_off32_eq k) (k0_off32_inb k)
    have h33 := slot_sub k (k0_off33_eq k) (k0_off33_inb k)
    have h34 := slot_sub k (k0_off34_eq k) (k0_off34_inb k)
    have h35 := slot_sub k (k0_off35_eq k) (k0_off35_inb k)
    have h36 := slot_sub k (k0_off36_eq k) (k0_off36_inb k)
    have h37 := slot_sub k (k0_off37_eq k) (k0_off37_inb k)
    have h38 := slot_sub k (k0_off38_eq k) (k0_off38_inb k)
    have h39 := slot_sub k (k0_off39_eq k) (k0_off39_inb k)
    have h40 := slot_sub k (k0_off40_eq k) (k0_off40_inb k)
    have h41 := slot_sub k (k0_off41_eq k) (k0_off41_inb k)
    have h42 := slot_sub k (k0_off42_eq k) (k0_off42_inb k)
    have h43 := slot_sub k (k0_off43_eq k) (k0_off43_inb k)
    have h44 := slot_sub k (k0_off44_eq k) (k0_off44_inb k)
    have h45 := slot_sub k (k0_off45_eq k) (k0_off45_inb k)
    have h46 := slot_sub k (k0_off46_eq k) (k0_off46_inb k)
    have h47 := slot_sub k (k0_off47_eq k) (k0_off47_inb k)
    have h48 := slot_sub k (k0_off48_eq k) (k0_off48_inb k)
    have h50 := slot_sub k (k0_off50_eq k) (k0_off50_inb k)
    have h51 := slot_sub k (k0_off51_eq k) (k0_off51_inb k)
    have h52 := slot_sub k (k0_off52_eq k) (k0_off52_inb k)
    have h53 := slot_sub k (k0_off53_eq k) (k0_off53_inb k)
    have h54 := slot_sub k (k0_off54_eq k) (k0_off54_inb k)
    have h55 := slot_sub k (k0_off55_eq k) (k0_off55_inb k)
    have h56 := slot_sub k (k0_off56_eq k) (k0_off56_inb k)
    have h57 := slot_sub k (k0_off57_eq k) (k0_off57_inb k)
    have h58 := slot_sub k (k0_off58_eq k) (k0_off58_inb k)
    have h59 := slot_sub k (k0_off59_eq k) (k0_off59_inb k)
    have h60 := slot_sub k (k0_off60_eq k) (k0_off60_inb k)
    have h61 := slot_sub k (k0_off61_eq k) (k0_off61_inb k)
    have h62 := slot_sub k (k0_off62_eq k) (k0_off62_inb k)
    have h63 := slot_sub k (k0_off63_eq k) (k0_off63_inb k)
    have h64 := slot_sub k (k0_off64_eq k) (k0_off64_inb k)
    have h65 := slot_sub k (k0_off65_eq k) (k0_off65_inb k)
    have h66 := slot_sub k (k0_off66_eq k) (k0_off66_inb k)
    have h67 := slot_sub k (k0_off67_eq k) (k0_off67_inb k)
    have h68 := slot_sub k (k0_off68_eq k) (k0_off68_inb k)
    have h69 := slot_sub k (k0_off69_eq k) (k0_off69_inb k)
    have h70 := slot_sub k (k0_off70_eq k) (k0_off70_inb k)
    have h71 := slot_sub k (k0_off71_eq k) (k0_off71_inb k)
    have h72 := slot_sub k (k0_off72_eq k) (k0_off72_inb k)
    have h73 := slot_sub k (k0_off73_eq k) (k0_off73_inb k)
    have h74 := slot_sub k (k0_off74_eq k) (k0_off74_inb k)
    have h75 := slot_sub k (k0_off75_eq k) (k0_off75_inb k)
    have h76 := slot_sub k (k0_off76_eq k) (k0_off76_inb k)
    have h77 := slot_sub k (k0_off77_eq k) (k0_off77_inb k)
    have h78 := slot_sub k (k0_off78_eq k) (k0_off78_inb k)
    have h79 := slot_sub k (k0_off79_eq k) (k0_off79_inb k)
    have h80 := slot_sub k (k0_off80_eq k) (k0_off80_inb k)
    have h81 := slot_sub k (k0_off81_eq k) (k0_off81_inb k)
    have h82 := slot_sub k (k0_off82_eq k) (k0_off82_inb k)
    have h83 := slot_sub k (k0_off83_eq k) (k0_off83_inb k)
    have h84 := slot_sub k (k0_off84_eq k) (k0_off84_inb k)
    have h85 := slot_sub k (k0_off85_eq k) (k0_off85_inb k)
    have h86 := slot_sub k (k0_off86_eq k) (k0_off86_inb k)
    have h87 := slot_sub k (k0_off87_eq k) (k0_off87_inb k)
    have h88 := slot_sub k (k0_off88_eq k) (k0_off88_inb k)
    have h89 := slot_sub k (k0_off89_eq k) (k0_off89_inb k)
    iintro ⟨HF, H6, H8, H9, H10, H11, H5, HW⟩
    sl_exec_parts!
    sl_step
    isplitl [HF HF_src HF_dst]
    · isplitl [HF_dst]; · iexact HF_dst
      isplitl [HF]; · iexact HF
      iexact HF_src
    isplitl [H6]; · iexact H6
    isplitl [H8]; · iexact H8
    isplitl [H9]; · iexact H9
    isplitl [H10]; · iexists _; iexact H10
    isplitl [H11]; · iexists _; iexact H11
    isplitl [H5]; · unfold tripRun.sl.H5_1; iexact H5
    iexists _; iexact HW

end Main

end Cert.KernelIdeal.Hand

end
-- ==== Proof.KernelIdealBody.lean ====
/-
  The whole body of `KernelIdeal`: the transfers issued, the activations gathered, the scales and zero points waited for, the
  thirty-five chunks computed; and the result it leaves, tile by tile, as a function of the operands' contents.
-/
module

public import proofs.«01_k».proof.Proof.KernelIdealTrip

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Result
variable (c : Dev nD) (XQ : Bf (F := F) c qM) (f6 : Bf (F := F) c xpM) (f8 : Bf (F := F) c svM) (f9 : Bf (F := F) c zvM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

/-- Trip `k`'s two tiles. -/
abbrev tiles (k : Fin k0_t2_loop.trips) : (S8x256.Idx → Elt F .bf16) × (S8x256.Idx → Elt F .bf16) :=
  (tripRun c XQ f6 f8 f9 arg0 harg0 arg1 harg1 arg5 harg5 k).1

/-- The result's column `j` lies in chunk `j / 512`. -/
def chunkOf (i : S8x17920.Idx) : Fin k0_t2_loop.trips :=
  ⟨(i 1).val / 512, by have h : (i 1).val < 17920 := (i 1).isLt; rw [trips2_eq]; omega⟩
/-- Row `b`, column `n` of a tile. -/
def tileIx (b : Fin 8) (n : ℕ) (h : n < 256) : S8x256.Idx := Fin.cons b (Fin.cons ⟨n, h⟩ finZeroElim)

/-- The result: column `j` from the tile of its chunk that holds it. -/
def resultY (i : S8x17920.Idx) : Elt F .bf16 :=
  if h : (i 1).val % 512 < 256 then (tiles c XQ f6 f8 f9 arg0 harg0 arg1 harg1 arg5 harg5 (chunkOf i)).1 (tileIx (i 0) ((i 1).val % 512) h)
  else (tiles c XQ f6 f8 f9 arg0 harg0 arg1 harg1 arg5 harg5 (chunkOf i)).2 (tileIx (i 0) ((i 1).val % 512 - 256) (by omega))

/-- The result's buffer before trip `k`: right in the columns below `512 k`. -/
def filled (k : ℕ) (f : Bf (F := F) c arg5) : Prop :=
  ∀ i : S8x17920.Idx, (i 1).val < 512 * k → arg5.view.read (Elt F) f i = resultY c XQ f6 f8 f9 arg0 harg0 arg1 harg1 arg5 harg5 i

theorem filled_zero (f : Bf (F := F) c arg5) : filled c XQ f6 f8 f9 arg0 harg0 arg1 harg1 arg5 harg5 0 f := fun i h => absurd h (by omega)

theorem filled_all {f : Bf (F := F) c arg5} (h : filled c XQ f6 f8 f9 arg0 harg0 arg1 harg1 arg5 harg5 k0_t2_loop.trips f) :
    arg5.view.read (Elt F) f = resultY c XQ f6 f8 f9 arg0 harg0 arg1 harg1 arg5 harg5 := by
  funext i
  have h1 : (i 1).val < 17920 := (i 1).isLt
  exact h i (by rw [trips2_eq]; omega)

/-- Trip `k`'s two stores fill the next 512 columns. -/
theorem filled_next (k : Fin k0_t2_loop.trips) (f : Bf (F := F) c arg5)
    (h : filled c XQ f6 f8 f9 arg0 harg0 arg1 harg1 arg5 harg5 k.val f) :
    filled c XQ f6 f8 f9 arg0 harg0 arg1 harg1 arg5 harg5 (k.val + 1) (arg5.view.writes (Elt F) f
      [⟨Rect.unit (s := S8x17920) (k0_off49 k 256#32) S8x256.size (k0_off49_inb k 1), (tiles c XQ f6 f8 f9 arg0 harg0 arg1 harg1 arg5 harg5 k).2⟩,
       ⟨Rect.unit (s := S8x17920) (k0_off49 k 0#32) S8x256.size (k0_off49_inb k 0), (tiles c XQ f6 f8 f9 arg0 harg0 arg1 harg1 arg5 harg5 k).1⟩]) := by
  intro i hi
  have e0 : k0_off49 k 0#32 = ![0, 512 * k.val] := k0_off49_eq k 0
  have e1 : k0_off49 k 256#32 = ![0, 512 * k.val + 256] := k0_off49_eq k 1
  have b0 : ∀ a, k0_off49 k 0#32 a + S8x256.size a ≤ S8x17920.size a := k0_off49_inb k 0
  have b1 : ∀ a, k0_off49 k 256#32 a + S8x256.size a ≤ S8x17920.size a := k0_off49_inb k 1
  by_cases hlo : (i 1).val < 512 * k.val
  · rw [View.read_writes_cons_unit_of_not_mem arg5.view _ b1 _ _ i e1 1 (Or.inl (by show (i 1).val < 512 * k.val + 256; omega)),
      View.read_writes_cons_unit_of_not_mem arg5.view _ b0 _ _ i e0 1 (Or.inl (by show (i 1).val < 512 * k.val; omega))]
    exact h i hlo
  · have hk : chunkOf i = k := Fin.ext (by show (i 1).val / 512 = k.val; omega)
    unfold resultY
    rw [hk]
    by_cases hm : (i 1).val % 512 < 256
    · rw [dif_pos hm, View.read_writes_cons_unit_of_not_mem arg5.view _ b1 _ _ i e1 1 (Or.inl (by show (i 1).val < 512 * k.val + 256; omega))]
      refine View.read_writes_cons_unit_of_mem arg5.view _ b0 _ _ i (tileIx (i 0) ((i 1).val % 512) hm) e0 (Fin.forall_fin_two.mpr ⟨?_, ?_⟩)
      · show (i 0).val = 0 + (i 0).val; omega
      · show (i 1).val = 512 * k.val + (i 1).val % 512; omega
    · rw [dif_neg hm]
      refine View.read_writes_cons_unit_of_mem arg5.view _ b1 _ _ i (tileIx (i 0) ((i 1).val % 512 - 256) (by omega)) e1 (Fin.forall_fin_two.mpr ⟨?_, ?_⟩)
      · show (i 0).val = 0 + (i 0).val; omega
      · show (i 1).val = 512 * k.val + 256 + ((i 1).val % 512 - 256); omega

/-- The result's buffer before trip `k`, from contents `f`. -/
def yAcc (f : Bf (F := F) c arg5) : ℕ → Bf (F := F) c arg5
  | 0 => f
  | k + 1 => if h : k < k0_t2_loop.trips then arg5.view.writes (Elt F) (yAcc f k)
      [⟨Rect.unit (s := S8x17920) (k0_off49 ⟨k, h⟩ 256#32) S8x256.size (k0_off49_inb ⟨k, h⟩ 1), (tiles c XQ f6 f8 f9 arg0 harg0 arg1 harg1 arg5 harg5 ⟨k, h⟩).2⟩,
       ⟨Rect.unit (s := S8x17920) (k0_off49 ⟨k, h⟩ 0#32) S8x256.size (k0_off49_inb ⟨k, h⟩ 0), (tiles c XQ f6 f8 f9 arg0 harg0 arg1 harg1 arg5 harg5 ⟨k, h⟩).1⟩]
    else yAcc f k

theorem yAcc_next (k : Fin k0_t2_loop.trips) (f : Bf (F := F) c arg5) :
    yAcc c XQ f6 f8 f9 arg0 harg0 arg1 harg1 arg5 harg5 f (k.val + 1) = arg5.view.writes (Elt F) (yAcc c XQ f6 f8 f9 arg0 harg0 arg1 harg1 arg5 harg5 f k.val)
      [⟨Rect.unit (s := S8x17920) (k0_off49 k 256#32) S8x256.size (k0_off49_inb k 1), (tiles c XQ f6 f8 f9 arg0 harg0 arg1 harg1 arg5 harg5 k).2⟩,
       ⟨Rect.unit (s := S8x17920) (k0_off49 k 0#32) S8x256.size (k0_off49_inb k 0), (tiles c XQ f6 f8 f9 arg0 harg0 arg1 harg1 arg5 harg5 k).1⟩] := by
  rw [yAcc, dif_pos k.isLt]

theorem filled_yAcc (f : Bf (F := F) c arg5) : ∀ k, k ≤ k0_t2_loop.trips →
    filled c XQ f6 f8 f9 arg0 harg0 arg1 harg1 arg5 harg5 k (yAcc c XQ f6 f8 f9 arg0 harg0 arg1 harg1 arg5 harg5 f k)
  | 0, _ => filled_zero c XQ f6 f8 f9 arg0 harg0 arg1 harg1 arg5 harg5 _
  | k + 1, h => by
    rw [yAcc_next c XQ f6 f8 f9 arg0 harg0 arg1 harg1 arg5 harg5 ⟨k, h⟩ f]
    exact filled_next c XQ f6 f8 f9 arg0 harg0 arg1 harg1 arg5 harg5 ⟨k, h⟩ _ (filled_yAcc f k (Nat.le_of_succ_le h))

/-- After the last trip the result's buffer reads as the result. -/
theorem read_yAcc (f : Bf (F := F) c arg5) :
    arg5.view.read (Elt F) (yAcc c XQ f6 f8 f9 arg0 harg0 arg1 harg1 arg5 harg5 f k0_t2_loop.trips) = resultY c XQ f6 f8 f9 arg0 harg0 arg1 harg1 arg5 harg5 :=
  filled_all c XQ f6 f8 f9 arg0 harg0 arg1 harg1 arg5 harg5 (filled_yAcc c XQ f6 f8 f9 arg0 harg0 arg1 harg1 arg5 harg5 f _ le_rfl)

variable (f5 : Bf (F := F) c arg5)

set_option warn.classDefReducibility false in
/-- The main loop's invariant. -/
@[sl_loop] def loopInv2 :
    LoopInvTy_k0_t2 (F := F) Unit ℕ (Pipeline.UD sig nD τ) ℕ 𝒱₀ c none Set.univ arg0 harg0 arg1 harg1 qM (Memref.isWhole_whole _) sM (Memref.isWhole_whole _) zM (Memref.isWhole_whole _) arg5 harg5
      xpM (Memref.isWhole_whole _) bufM (Memref.isWhole_whole _) svM (Memref.isWhole_whole _) zvM (Memref.isWhole_whole _)
      sbM (Memref.isWhole_whole _) zbM (Memref.isWhole_whole _) cc0_scratch6 cc0_scratch7 cc0_scratch8 where
  inv k _ := iprop(ring c XQ k0_t1_loop.trips k ∗ pt c xpM f6 ∗ pt c svM f8 ∗ pt c zvM f9 ∗ (∃ f, pt c sbM f) ∗ (∃ f, pt c zbM f)
    ∗ pt c arg5 (yAcc c XQ f6 f8 f9 arg0 harg0 arg1 harg1 arg5 harg5 f5 k) ∗ ∃ W, owes (c : Thread nD τ) 0 W)
  step k _ := by
    rw [ring_drain, ring_drain]
    have eh := fam_here (doneP c XQ) (flightP c XQ) (ix2 k)
    have en := fam_next (doneP c XQ) (flightP c XQ) (ix2 k)
    rw [show (ix2 k).val = k.val from rfl] at eh en
    rw [eh, en, yAcc_next]
    iintro ⟨⟨HF, Hrest⟩, H6, H8, H9, ⟨%f10, H10⟩, ⟨%f11, H11⟩, H5, ⟨%W, HW⟩⟩
    iapply (wp_wand_r Idealize.ShloMosaic.frame (wpE (defs₀ (F := F)) 𝒱₀ (c : Thread nD τ) none) Set.univ)
    isplitl [HF H6 H8 H9 H10 H11 H5 HW]
    · iapply ((tripRun c XQ f6 f8 f9 arg0 harg0 arg1 harg1 arg5 harg5 k).2 _ f10 f11 W)
      isplitl [HF]; · iexact HF
      isplitl [H6]; · iexact H6
      isplitl [H8]; · iexact H8
      isplitl [H9]; · iexact H9
      isplitl [H10]; · iexact H10
      isplitl [H11]; · iexact H11
      isplitl [H5]; · iexact H5
      iexact HW
    · iintro %_ ⟨HD, H6, H8, H9, H10, H11, H5, HW⟩
      isplitl [HD Hrest]
      · isplitl [HD]; · iexact HD
        iexact Hrest
      isplitl [H6]; · iexact H6
      isplitl [H8]; · iexact H8
      isplitl [H9]; · iexact H9
      isplitl [H10]; · iexact H10
      isplitl [H11]; · iexact H11
      isplitl [H5]; · iexact H5
      iexact HW

end Result

section Body
variable (c : Dev nD) (XQ : Bf (F := F) c qM) (XS : Bf (F := F) c sM) (XZ : Bf (F := F) c zM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)
  (f0 : Bf (F := F) c arg0) (f1 : Bf (F := F) c arg1)

abbrev bodyP : Prog (TpuEff nD τ sig (Elt F) Λ₀ .tc) Unit :=
  cc0_gptq_int4_linear (F := F) arg0 harg0 arg1 harg1 qM (Memref.isWhole_whole _) sM (Memref.isWhole_whole _) zM (Memref.isWhole_whole _) arg5 harg5
    xpM (Memref.isWhole_whole _) bufM (Memref.isWhole_whole _) svM (Memref.isWhole_whole _) zvM (Memref.isWhole_whole _)
    sbM (Memref.isWhole_whole _) zbM (Memref.isWhole_whole _) cc0_scratch6 cc0_scratch7 cc0_scratch8

/-- The scales' copy in fast memory, the zero points'. -/
abbrev copyS : Bf (F := F) c svM := ReadAs.same.apply (sM.view.read (Elt F) XS)
abbrev copyZ : Bf (F := F) c zvM := ReadAs.same.apply (zM.view.read (Elt F) XZ)

set_option backward.proofsInPublic true in
set_option sl_exec.resultNames true in
/-- The body's run; the gathered activations are found by it. -/
def bodyRun :
    { w : Bf (F := F) c xpM //
      ∀ (f5 : Bf (F := F) c arg5) (f6 : Bf (F := F) c xpM) (f8 : Bf (F := F) c svM) (f9 : Bf (F := F) c zvM) (f10 : Bf (F := F) c sbM) (f11 : Bf (F := F) c zbM) (W : Waits sig Unit),
      iprop(pt c arg0 f0 ∗ pt c arg1 f1 ∗ pt c sM XS ∗ pt c zM XZ ∗ pt c arg5 f5 ∗ pt c xpM f6 ∗ pt c svM f8 ∗ pt c zvM f9 ∗ pt c sbM f10 ∗ pt c zbM f11
        ∗ ring c XQ 0 0 ∗ semVal ((c : Thread nD τ), SemLoc.dma cc0_scratch7.sem) 0 ∗ semVal ((c : Thread nD τ), SemLoc.dma cc0_scratch8.sem) 0 ∗ owes (c : Thread nD τ) 0 W)
      ⊢ wp frame (wpE (defs₀ (F := F)) 𝒱₀ (c : Thread nD τ) none) Set.univ (bodyP arg0 harg0 arg1 harg1 arg5 harg5)
        (fun _ => iprop(pt c arg0 f0 ∗ pt c arg1 f1 ∗ pt c sM XS ∗ pt c zM XZ
          ∗ pt c arg5 (yAcc c XQ w (copyS c XS) (copyZ c XZ) arg0 harg0 arg1 harg1 arg5 harg5 f5 k0_t2_loop.trips)
          ∗ (∃ f, pt c xpM f) ∗ (∃ f, pt c svM f) ∗ (∃ f, pt c zvM f) ∗ (∃ f, pt c sbM f) ∗ (∃ f, pt c zbM f)
          ∗ ring c XQ k0_t1_loop.trips k0_t2_loop.trips ∗ semVal ((c : Thread nD τ), SemLoc.dma cc0_scratch7.sem) 0 ∗ semVal ((c : Thread nD τ), SemLoc.dma cc0_scratch8.sem) 0
          ∗ ∃ W, owes (c : Thread nD τ) 0 W)) } := by
  refine ⟨?_, fun f5 f6 f8 f9 f10 f11 W => ?run⟩
  case run =>
    iintro ⟨H0, H1, HS, HZ, H5, H6, H8, H9, H10, H11, HI, Hc7, Hc8, HW⟩
    dsimp only [bodyP]
    sl_exec_parts!
    sl_step
    isplitl [H0]; · iexact H0
    isplitl [H1]; · iexact H1
    isplitl [HS]; · iexact HS
    isplitl [HZ]; · iexact HZ
    isplitl [H5]
    · rw [show View.write (Elt F) svM.view f8 (bodyRun.sl.dma0 c XS) Finset.univ = copyS c XS from View.write_whole_univ _ _ _,
        show View.write (Elt F) zvM.view f9 (bodyRun.sl.dma0_1 c XZ) Finset.univ = copyZ c XZ from View.write_whole_univ _ _ _]
      iexact H5
    isplitl [H6]; · iexists _; iexact H6
    isplitl [H8]; · iexists _; iexact H8
    isplitl [H9]; · iexists _; iexact H9
    isplitl [H10]; · iexists _; iexact H10
    isplitl [H11]; · iexists _; iexact H11
    isplitl [HI]; · iexact HI
    isplitl [Hc7]; · iexact Hc7
    isplitl [Hc8]; · iexact Hc8
    iexists _; iexact HW

end Body

end Cert.KernelIdeal.Hand

end
-- ==== Proof.KernelIdealLaunch.lean ====
/-
  The run of `KernelIdeal`: the body's obligation at the pipeline's one grid point, the launch, the frame, and the result's
  array as the body leaves it.
-/
module

public import proofs.«01_k».proof.Proof.KernelIdealBody
public import proofs.«01_k».proof.Proof.Gen.KernelIdeal.Frame
public import proofs.«01_k».proof.Proof.Gen.KernelIdeal.Points

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The ring at rest and the ring delivered, from and to the buffers held whole -/

section Deal
variable (c : Dev nD) (XQ : Bf (F := F) c qM)

theorem homes_eq : pt c qM XQ = bigSep Finset.univ (fun b : Fin 35 => homeP c XQ b) := by
  refine (Ring.pointsTo_blocks (ℓ := qM.view.loc (c : Thread nD τ)) QB QB_disjoint QB_cover XQ).trans ?_
  refine bigSep_congr fun b _ => ?_
  show _ = ((blkQ b).view.loc (c : Thread nD τ) ↦[(blkQ b).view.set]{fullShare} XQ)
  rw [blkQ_set]
  rfl
theorem slots_eq (f : Bf (F := F) c bufM) : pt c bufM f = bigSep Finset.univ (fun s : Fin 35 => slotP c s f) := by
  refine (Ring.pointsTo_blocks (ℓ := bufM.view.loc (c : Thread nD τ)) SL SL_disjoint SL_cover f).trans ?_
  refine bigSep_congr fun s _ => ?_
  show _ = ((rslot s).view.loc (c : Thread nD τ) ↦[(rslot s).view.set]{fullShare} f)
  rw [rslot_set]
  rfl

theorem ring_in (f : Bf (F := F) c bufM) :
    iprop(bigSep Finset.univ (fun s : Fin 35 => cellP c s) ∗ pt c bufM f ∗ pt c qM XQ) ⊢ ring c XQ 0 0 := by
  rw [ring_rest, homes_eq, slots_eq]
  rw [show bigSep Finset.univ (fun s : Fin 35 => idleP c XQ s)
      = iprop(bigSep Finset.univ (fun s : Fin 35 => iprop(∃ f, slotP c s f)) ∗ bigSep Finset.univ (fun s : Fin 35 => cellP c s) ∗ bigSep Finset.univ (fun s : Fin 35 => homeP c XQ s))
      from (bigSep_sep _ _ _).trans (congrArg _ (bigSep_sep _ _ _))]
  iintro ⟨HC, HS, HQ⟩
  isplitl [HS]
  · have hx : bigSep Finset.univ (fun s : Fin 35 => slotP c s f) ⊢ bigSep Finset.univ (fun s : Fin 35 => iprop(∃ f, slotP c s f)) :=
      bigSep_mono (fun s _ => exists_intro (Φ := fun f => slotP c s f) f)
    iapply hx; iexact HS
  isplitl [HC]; · iexact HC
  iexact HQ
theorem ring_out :
    ring c XQ k0_t1_loop.trips k0_t2_loop.trips ⊢ iprop(bigSep Finset.univ (fun s : Fin 35 => cellP c s) ∗ (∃ f, pt c bufM f) ∗ pt c qM XQ) := by
  rw [ring_all, homes_eq]
  rw [show bigSep Finset.univ (fun s : Fin 35 => doneP c XQ s)
      = iprop(bigSep Finset.univ (fun s : Fin 35 => slotP c s (bufQ c XQ)) ∗ bigSep Finset.univ (fun s : Fin 35 => cellP c s) ∗ bigSep Finset.univ (fun s : Fin 35 => homeP c XQ s))
      from (bigSep_sep _ _ _).trans (congrArg _ (bigSep_sep _ _ _))]
  rw [← slots_eq]
  iintro ⟨HS, HC, HQ⟩
  isplitl [HC]; · iexact HC
  isplitl [HS]; · iexists _; iexact HS
  iexact HQ

end Deal

/-! ## The kernel's own cells and the operands left in HBM -/

/-- The body's thirty-seven DMA cells: one a slot, the scales', the zero points'. -/
abbrev osem0 : Fin 35 ⊕ Fin 2 → SemLoc sig := Sum.elim (fun s => SemLoc.dma (csm s).sem) ![SemLoc.dma cc0_scratch7.sem, SemLoc.dma cc0_scratch8.sem]
theorem ownSemFacts0 : Pipeline.OwnSemFacts spec0 osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep Finset.univ (fun s : Fin 35 => cellP c s)
          ∗ semVal ((c : Thread nD τ), SemLoc.dma cc0_scratch7.sem) 0 ∗ semVal ((c : Thread nD τ), SemLoc.dma cc0_scratch8.sem) 0) := by
  unfold Pipeline.ownSems0
  rw [bigSep_univ_sum]
  refine congrArg _ ?_
  rw [bigSep_univ_eq_bigSepL [0, 1] (by decide) (by decide)]
  first | done | rfl
/-- The operands the body's own transfers read. -/
def H0 : Finset (Ref sig .tc) := {main_arg1, main_arg2, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c qM (V m c main_arg1) ∗ pt c sM (V m c main_arg2) ∗ pt c zM (V m c main_arg3)) := by
  rw [BI.bigSep_eq_bigSepL_of_eq [main_arg1, main_arg2, main_arg3] (by decide) (by decide)]
  first | done | rfl

theorem PhiD0_eq (c : Dev nD) :
    (Pipeline.ΦD osem0 spec0 H0 (V m) c : sProp 𝕄)
      = iprop(iprop((∃ f, pt c xpM f) ∗ (∃ f, pt c bufM f) ∗ (∃ f, pt c svM f) ∗ (∃ f, pt c zvM f) ∗ (∃ f, pt c sbM f) ∗ (∃ f, pt c zbM f))
          ∗ (∃ r, prngReg c r)
          ∗ iprop(bigSep Finset.univ (fun s : Fin 35 => cellP c s)
              ∗ semVal ((c : Thread nD τ), SemLoc.dma cc0_scratch7.sem) 0 ∗ semVal ((c : Thread nD τ), SemLoc.dma cc0_scratch8.sem) 0)
          ∗ iprop(pt c qM (V m c main_arg1) ∗ pt c sM (V m c main_arg2) ∗ pt c zM (V m c main_arg3))) := by
  rw [Pipeline.ΦD_eq, scopedRest0_eq, ownSems00_eq, hbmPts0_eq]

/-! ## The proof data -/

abbrev hst0_0 (t : Fin cfg0.N) : (st0_0 t).IsWhole := hstage0_0 0
abbrev hst0_1 (t : Fin cfg0.N) : (st0_1 t).IsWhole := hstage0_1 0
abbrev hst0_2 (t : Fin cfg0.N) : (st0_2 t).IsWhole := hstage0_2 0

/-- The staged activations' buffer and the staged permutation's, at their blocks. -/
abbrev xbuf (c : Dev nD) (t : Fin cfg0.N) : Bf (F := F) c (st0_0 t) := (st0_0 t).view.rep (iblk m c 0 t)
abbrev pbuf (c : Dev nD) (t : Fin cfg0.N) : Bf (F := F) c (st0_1 t) := (st0_1 t).view.rep (iblk m c 1 t)

/-- The gathered activations. -/
abbrev gathered (c : Dev nD) (t : Fin cfg0.N) : Bf (F := F) c xpM :=
  (bodyRun c (V m c main_arg1) (V m c main_arg2) (V m c main_arg3) (st0_0 t) (hst0_0 t) (st0_1 t) (hst0_1 t) (st0_2 t) (hst0_2 t) (xbuf m c t) (pbuf m c t)).1

/-- The result the body leaves. -/
def outY (c : Dev nD) (t : Fin cfg0.N) : S8x17920.Idx → Elt F .bf16 :=
  resultY c (V m c main_arg1) (gathered m c t) (copyS c (V m c main_arg2)) (copyZ c (V m c main_arg3)) (st0_0 t) (hst0_0 t) (st0_1 t) (hst0_1 t) (st0_2 t) (hst0_2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outY m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outY m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before0_1 (c : Dev nD) (t : Fin cfg0.N) (d) : (dats m 0 c).before 1 t d = iblk m c 1 t := by
  unfold Dat.before; rw [if_pos (fetch0_1 t)]; unfold Dat.fetched Dat.blockOf iblk; dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- A whole memref held by its own elements is held whole. -/
theorem whole_pt (c : Dev nD) {sp : Space} {S : Shape} {e : EltTy} (M : Memref sig .tc sp S e) (h : M.IsWhole) (f : Bf (F := F) c M) :
    (M.view.loc (c : Thread nD τ) ↦[M.view.set]{fullShare} f : sProp 𝕄) = pt c M f := by
  rw [h.set_eq_univ]

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, after0_0, after0_1, after0_2]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨⟨%f6, H6⟩, ⟨%f7, H7⟩, ⟨%f8, H8⟩, ⟨%f9, H9⟩, ⟨%f10, H10⟩, ⟨%f11, H11⟩⟩, Hg, ⟨HC, Hc7, Hc8⟩, ⟨HQ, HS, HZ⟩⟩, ⟨%W, -, HW⟩, ⟨%d0, %g0, %hg0, H0⟩, ⟨%d1, %g1, %hg1, H1⟩, ⟨%d2, %g2, -, H2⟩⟩
  ihave H0' := (pointsTo_rep_entails (c : Thread nD τ) (st0_0 t) g0 fullShare) $$ H0
  ihave H1' := (pointsTo_rep_entails (c : Thread nD τ) (st0_1 t) g1 fullShare) $$ H1
  ihave H2' := (entails_of_eq (whole_pt c (st0_2 t) (hst0_2 t) g2)) $$ H2
  rw [hg0, hg1]
  iapply (wp_wand_r Idealize.ShloMosaic.frame (wpE (defs₀ (F := F)) 𝒱₀ (c : Thread nD τ) none) Set.univ)
  isplitl [H6 H7 H8 H9 H10 H11 HC Hc7 Hc8 HQ HS HZ HW H0' H1' H2']
  · iapply ((bodyRun c (V m c main_arg1) (V m c main_arg2) (V m c main_arg3) (st0_0 t) (hst0_0 t) (st0_1 t) (hst0_1 t) (st0_2 t) (hst0_2 t) (xbuf m c t) (pbuf m c t)).2 g2 f6 f8 f9 f10 f11 W)
    isplitl [H0']; · iapply (entails_of_eq (whole_pt c (st0_0 t) (hst0_0 t) (xbuf m c t))); iexact H0'
    isplitl [H1']; · iapply (entails_of_eq (whole_pt c (st0_1 t) (hst0_1 t) (pbuf m c t))); iexact H1'
    isplitl [HS]; · iexact HS
    isplitl [HZ]; · iexact HZ
    isplitl [H2']; · iexact H2'
    isplitl [H6]; · iexact H6
    isplitl [H8]; · iexact H8
    isplitl [H9]; · iexact H9
    isplitl [H10]; · iexact H10
    isplitl [H11]; · iexact H11
    isplitl [HC H7 HQ]
    · iapply (ring_in c (V m c main_arg1) f7)
      isplitl [HC]; · iexact HC
      isplitl [H7]; · iexact H7
      iexact HQ
    isplitl [Hc7]; · iexact Hc7
    isplitl [Hc8]; · iexact Hc8
    iexact HW
  · iintro %_ ⟨H0, H1, HS, HZ, H2, H6, H8, H9, H10, H11, HR, Hc7, Hc8, ⟨%W', HW'⟩⟩
    ihave HR' := (ring_out c (V m c main_arg1)) $$ HR
    icases HR' with ⟨HC, H7, HQ⟩
    isplitl [H6 H7 H8 H9 H10 H11 Hg HC Hc7 Hc8 HQ HS HZ]
    · isplitl [H6 H7 H8 H9 H10 H11]
      · isplitl [H6]; · iexact H6
        isplitl [H7]; · iexact H7
        isplitl [H8]; · iexact H8
        isplitl [H9]; · iexact H9
        isplitl [H10]; · iexact H10
        iexact H11
      isplitl [Hg]; · iexact Hg
      isplitl [HC Hc7 Hc8]
      · isplitl [HC]; · iexact HC
        isplitl [Hc7]; · iexact Hc7
        iexact Hc8
      isplitl [HQ]; · iexact HQ
      isplitl [HS]; · iexact HS
      iexact HZ
    isplitl [HW']
    · iexists W'; isplitr; · ipureintro; exact fun _ _ => Or.inl trivial
      iexact HW'
    isplitl [H0]
    · iexists (xbuf m c t); isplitr; · ipureintro; exact View.read_rep _ _
      iapply (entails_of_eq (whole_pt c (st0_0 t) (hst0_0 t) (xbuf m c t)).symm); iexact H0
    isplitl [H1]
    · iexists (pbuf m c t); isplitr; · ipureintro; exact View.read_rep _ _
      iapply (entails_of_eq (whole_pt c (st0_1 t) (hst0_1 t) (pbuf m c t)).symm); iexact H1
    iexists _
    isplitr
    swap; · iapply (entails_of_eq (whole_pt c (st0_2 t) (hst0_2 t) _).symm); iexact H2
    ipureintro
    exact read_yAcc c _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

set_option backward.isDefEq.respectTransparency.types false in
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

theorem hmain : Pipeline.HMain (Ix := Unit) (Name := ℕ) (U := Pipeline.UD sig nD τ) (Lvl := ℕ) cfgs 0 defs₀ 𝒱₀ m main (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V := V m) (hmain := hmain m) (hA := A_eq m)
    (hin := fun _ => .rfl) (hout := fun _ => .rfl)

/-- The arguments' arrays after the run: unchanged. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩) (run_main m ρ)

end Cert.KernelIdeal.Hand

end
-- ==== Proof.KernelIdealSteps.lean ====
/-
  One chunk's accumulation in `KernelIdeal`, step by step: what a step of 256 input features adds to the accumulator, and
  the two tiles of a trip as twenty such steps from zero.
-/
module

public import proofs.«01_k».proof.Proof.KernelIdealTrip

@[expose] public section

noncomputable section

namespace Cert.KernelIdeal.Hand

open Cert.KernelIdeal Cert.KernelIdeal.Gen
open Idealize.ShloMosaic
open Idealize.ShloMosaic.TcCoe

variable {F : FTy → Type} [FloatOps F]

/-- 128 rows of codes from 64 rows of packed bytes: the low nibbles in the even rows, the high ones in the odd rows. -/
def nibRows (q : Vec F S1x64x256 .i8) : FVec F S128x256 .bf16 :=
  interleaveRows S128x256
    (truncf .bf16 (sitofp .f32 (andi (extui 32 (shapeCast S64x256 q shapeCasts_S1x64x256_S64x256) natLt_8_32) (broadcast S64x256 15#32))) bitsLt_bf16_f32)
    (truncf .bf16 (sitofp .f32 (shrsi (extui 32 (shapeCast S64x256 q shapeCasts_S1x64x256_S64x256) natLt_8_32) (broadcast S64x256 4#32))) bitsLt_bf16_f32)
    bitcasts_S128x256_w16_S64x256_w32

/-- One row of scales or zero points, over the group's 128 rows. -/
def spread (r : Vec F S1x2x256 .bf16) : FVec F S128x256 .bf16 :=
  broadcastTo S128x256 (shapeCast S1x256 (extractStridedSlice S1x256 ![0, 0]
    (interleaveRows S2x256
      (shapeCast S1x256 (rowsOfParity 0 S1x1x256 r bitcasts_S1x2x256_w16_S1x1x256_w32) shapeCasts_S1x1x256_S1x256)
      (shapeCast S1x256 (rowsOfParity 1 S1x1x256 r bitcasts_S1x2x256_w16_S1x1x256_w32) shapeCasts_S1x1x256_S1x256)
      bitcasts_S2x256_w16_S1x256_w32) slices_S2x256_o0_0_S1x256) shapeCasts_S1x256_S1x256) broadcasts_S1x256_S128x256

/-- A group's 128 rows of weights. -/
def deq (q : Vec F S1x64x256 .i8) (z s : Vec F S1x2x256 .bf16) : FVec F S128x256 .bf16 :=
  mulf (subf (nibRows q) (spread z)) (spread s)

/-- One step: 256 input features, two groups, into the accumulator. -/
def kstep (acc : FVec F S8x256 .f32) (x : Vec F S8x256 .bf16) (q0 : Vec F S1x64x256 .i8) (z0 s0 : Vec F S1x2x256 .bf16)
    (q1 : Vec F S1x64x256 .i8) (z1 s1 : Vec F S1x2x256 .bf16) : FVec F S8x256 .f32 :=
  addf acc (matmul dot_S8x256_S256x256_S8x256_1_0_0_1_n_n none x
    (concatenate S256x256 0 [⟨S128x256, deq q0 z0 s0⟩, ⟨S128x256, deq q1 z1 s1⟩] concatenates_S128x256_S128x256_S256x256_d0)
    (constant S8x256 .f32 0x00000000#32))

/-- The accumulator before the first step. -/
def accZero : FVec F S8x256 .f32 := broadcast S8x256 (Scalar.ofBits .f32 0x00000000#32)

/-- The 256 gathered activations a step reads. -/
abbrev xl (c : Dev nD) (f6 : Bf (F := F) c xpM) (o : ℕ) (h : ∀ a, (![0, o] : Fin 2 → ℕ) a + S8x256.size a ≤ S8x5120.size a) : Vec F S8x256 .bf16 :=
  View.readAt (Elt F) xpM.view (Rect.unit (s := S8x5120) ![0, o] S8x256.size h).toLoadRect f6

section Steps
variable (c : Dev nD) (XQ : Bf (F := F) c qM) (f6 : Bf (F := F) c xpM) (f8 : Bf (F := F) c svM) (f9 : Bf (F := F) c zvM)
  (k : Fin k0_t2_loop.trips)

theorem step0_0 : tripRun.sl.v9832 c XQ f6 f8 f9 k = kstep accZero (xl c f6 0 inb_S8x5120_S8x256_0_0)
      (tripRun.sl.v9782 c XQ k) (tripRun.sl.v9793_raw c f9 k) (tripRun.sl.v9798_raw c f8 k)
      (tripRun.sl.v9806 c XQ k) (tripRun.sl.v9817_raw c f9 k) (tripRun.sl.v9822_raw c f8 k) := rfl
theorem step0_1 : tripRun.sl.v9884 c XQ f6 f8 f9 k = kstep (tripRun.sl.v9832 c XQ f6 f8 f9 k) (xl c f6 256 inb_S8x5120_S8x256_0_256)
      (tripRun.sl.v9834 c XQ k) (tripRun.sl.v9845_raw c f9 k) (tripRun.sl.v9850_raw c f8 k)
      (tripRun.sl.v9858 c XQ k) (tripRun.sl.v9869_raw c f9 k) (tripRun.sl.v9874_raw c f8 k) := rfl
theorem step0_2 : tripRun.sl.v9936 c XQ f6 f8 f9 k = kstep (tripRun.sl.v9884 c XQ f6 f8 f9 k) (xl c f6 512 inb_S8x5120_S8x256_0_512)
      (tripRun.sl.v9886 c XQ k) (tripRun.sl.v9897_raw c f9 k) (tripRun.sl.v9902_raw c f8 k)
      (tripRun.sl.v9910 c XQ k) (tripRun.sl.v9921_raw c f9 k) (tripRun.sl.v9926_raw c f8 k) := rfl
theorem step0_3 : tripRun.sl.v9988 c XQ f6 f8 f9 k = kstep (tripRun.sl.v9936 c XQ f6 f8 f9 k) (xl c f6 768 inb_S8x5120_S8x256_0_768)
      (tripRun.sl.v9938 c XQ k) (tripRun.sl.v9949_raw c f9 k) (tripRun.sl.v9954_raw c f8 k)
      (tripRun.sl.v9962 c XQ k) (tripRun.sl.v9973_raw c f9 k) (tripRun.sl.v9978_raw c f8 k) := rfl
theorem step0_4 : tripRun.sl.v10040 c XQ f6 f8 f9 k = kstep (tripRun.sl.v9988 c XQ f6 f8 f9 k) (xl c f6 1024 inb_S8x5120_S8x256_0_1024)
      (tripRun.sl.v9990 c XQ k) (tripRun.sl.v10001_raw c f9 k) (tripRun.sl.v10006_raw c f8 k)
      (tripRun.sl.v10014 c XQ k) (tripRun.sl.v10025_raw c f9 k) (tripRun.sl.v10030_raw c f8 k) := rfl
theorem step0_5 : tripRun.sl.v10092 c XQ f6 f8 f9 k = kstep (tripRun.sl.v10040 c XQ f6 f8 f9 k) (xl c f6 1280 inb_S8x5120_S8x256_0_1280)
      (tripRun.sl.v10042 c XQ k) (tripRun.sl.v10053_raw c f9 k) (tripRun.sl.v10058_raw c f8 k)
      (tripRun.sl.v10066 c XQ k) (tripRun.sl.v10077_raw c f9 k) (tripRun.sl.v10082_raw c f8 k) := rfl
theorem step0_6 : tripRun.sl.v10144 c XQ f6 f8 f9 k = kstep (tripRun.sl.v10092 c XQ f6 f8 f9 k) (xl c f6 1536 inb_S8x5120_S8x256_0_1536)
      (tripRun.sl.v10094 c XQ k) (tripRun.sl.v10105_raw c f9 k) (tripRun.sl.v10110_raw c f8 k)
      (tripRun.sl.v10118 c XQ k) (tripRun.sl.v10129_raw c f9 k) (tripRun.sl.v10134_raw c f8 k) := rfl
theorem step0_7 : tripRun.sl.v10196 c XQ f6 f8 f9 k = kstep (tripRun.sl.v10144 c XQ f6 f8 f9 k) (xl c f6 1792 inb_S8x5120_S8x256_0_1792)
      (tripRun.sl.v10146 c XQ k) (tripRun.sl.v10157_raw c f9 k) (tripRun.sl.v10162_raw c f8 k)
      (tripRun.sl.v10170 c XQ k) (tripRun.sl.v10181_raw c f9 k) (tripRun.sl.v10186_raw c f8 k) := rfl
theorem step0_8 : tripRun.sl.v10248 c XQ f6 f8 f9 k = kstep (tripRun.sl.v10196 c XQ f6 f8 f9 k) (xl c f6 2048 inb_S8x5120_S8x256_0_2048)
      (tripRun.sl.v10198 c XQ k) (tripRun.sl.v10209_raw c f9 k) (tripRun.sl.v10214_raw c f8 k)
      (tripRun.sl.v10222 c XQ k) (tripRun.sl.v10233_raw c f9 k) (tripRun.sl.v10238_raw c f8 k) := rfl
theorem step0_9 : tripRun.sl.v10300 c XQ f6 f8 f9 k = kstep (tripRun.sl.v10248 c XQ f6 f8 f9 k) (xl c f6 2304 inb_S8x5120_S8x256_0_2304)
      (tripRun.sl.v10250 c XQ k) (tripRun.sl.v10261_raw c f9 k) (tripRun.sl.v10266_raw c f8 k)
      (tripRun.sl.v10274 c XQ k) (tripRun.sl.v10285_raw c f9 k) (tripRun.sl.v10290_raw c f8 k) := rfl
theorem step0_10 : tripRun.sl.v10352 c XQ f6 f8 f9 k = kstep (tripRun.sl.v10300 c XQ f6 f8 f9 k) (xl c f6 2560 inb_S8x5120_S8x256_0_2560)
      (tripRun.sl.v10302 c XQ k) (tripRun.sl.v10313_raw c f9 k) (tripRun.sl.v10318_raw c f8 k)
      (tripRun.sl.v10326 c XQ k) (tripRun.sl.v10337_raw c f9 k) (tripRun.sl.v10342_raw c f8 k) := rfl
theorem step0_11 : tripRun.sl.v10404 c XQ f6 f8 f9 k = kstep (tripRun.sl.v10352 c XQ f6 f8 f9 k) (xl c f6 2816 inb_S8x5120_S8x256_0_2816)
      (tripRun.sl.v10354 c XQ k) (tripRun.sl.v10365_raw c f9 k) (tripRun.sl.v10370_raw c f8 k)
      (tripRun.sl.v10378 c XQ k) (tripRun.sl.v10389_raw c f9 k) (tripRun.sl.v10394_raw c f8 k) := rfl
theorem step0_12 : tripRun.sl.v10456 c XQ f6 f8 f9 k = kstep (tripRun.sl.v10404 c XQ f6 f8 f9 k) (xl c f6 3072 inb_S8x5120_S8x256_0_3072)
      (tripRun.sl.v10406 c XQ k) (tripRun.sl.v10417_raw c f9 k) (tripRun.sl.v10422_raw c f8 k)
      (tripRun.sl.v10430 c XQ k) (tripRun.sl.v10441_raw c f9 k) (tripRun.sl.v10446_raw c f8 k) := rfl
theorem step0_13 : tripRun.sl.v10508 c XQ f6 f8 f9 k = kstep (tripRun.sl.v10456 c XQ f6 f8 f9 k) (xl c f6 3328 inb_S8x5120_S8x256_0_3328)
      (tripRun.sl.v10458 c XQ k) (tripRun.sl.v10469_raw c f9 k) (tripRun.sl.v10474_raw c f8 k)
      (tripRun.sl.v10482 c XQ k) (tripRun.sl.v10493_raw c f9 k) (tripRun.sl.v10498_raw c f8 k) := rfl
theorem step0_14 : tripRun.sl.v10560 c XQ f6 f8 f9 k = kstep (tripRun.sl.v10508 c XQ f6 f8 f9 k) (xl c f6 3584 inb_S8x5120_S8x256_0_3584)
      (tripRun.sl.v10510 c XQ k) (tripRun.sl.v10521_raw c f9 k) (tripRun.sl.v10526_raw c f8 k)
      (tripRun.sl.v10534 c XQ k) (tripRun.sl.v10545_raw c f9 k) (tripRun.sl.v10550_raw c f8 k) := rfl
theorem step0_15 : tripRun.sl.v10612 c XQ f6 f8 f9 k = kstep (tripRun.sl.v10560 c XQ f6 f8 f9 k) (xl c f6 3840 inb_S8x5120_S8x256_0_3840)
      (tripRun.sl.v10562 c XQ k) (tripRun.sl.v10573_raw c f9 k) (tripRun.sl.v10578_raw c f8 k)
      (tripRun.sl.v10586 c XQ k) (tripRun.sl.v10597_raw c f9 k) (tripRun.sl.v10602_raw c f8 k) := rfl
theorem step0_16 : tripRun.sl.v10664 c XQ f6 f8 f9 k = kstep (tripRun.sl.v10612 c XQ f6 f8 f9 k) (xl c f6 4096 inb_S8x5120_S8x256_0_4096)
      (tripRun.sl.v10614 c XQ k) (tripRun.sl.v10625_raw c f9 k) (tripRun.sl.v10630_raw c f8 k)
      (tripRun.sl.v10638 c XQ k) (tripRun.sl.v10649_raw c f9 k) (tripRun.sl.v10654_raw c f8 k) := rfl
theorem step0_17 : tripRun.sl.v10716 c XQ f6 f8 f9 k = kstep (tripRun.sl.v10664 c XQ f6 f8 f9 k) (xl c f6 4352 inb_S8x5120_S8x256_0_4352)
      (tripRun.sl.v10666 c XQ k) (tripRun.sl.v10677_raw c f9 k) (tripRun.sl.v10682_raw c f8 k)
      (tripRun.sl.v10690 c XQ k) (tripRun.sl.v10701_raw c f9 k) (tripRun.sl.v10706_raw c f8 k) := rfl
theorem step0_18 : tripRun.sl.v10768 c XQ f6 f8 f9 k = kstep (tripRun.sl.v10716 c XQ f6 f8 f9 k) (xl c f6 4608 inb_S8x5120_S8x256_0_4608)
      (tripRun.sl.v10718 c XQ k) (tripRun.sl.v10729_raw c f9 k) (tripRun.sl.v10734_raw c f8 k)
      (tripRun.sl.v10742 c XQ k) (tripRun.sl.v10753_raw c f9 k) (tripRun.sl.v10758_raw c f8 k) := rfl
theorem last0 (arg0 : Memref sig .tc .vmem S8x5120 .bf16) (harg0 : arg0.IsWhole)
    (arg1 : Memref sig .tc .vmem S40x128 .i32) (harg1 : arg1.IsWhole)
    (arg5 : Memref sig .tc .vmem S8x17920 .bf16) (harg5 : arg5.IsWhole) :
    (tripRun c XQ f6 f8 f9 arg0 harg0 arg1 harg1 arg5 harg5 k).1.1 = truncf .bf16 (kstep (tripRun.sl.v10768 c XQ f6 f8 f9 k) (xl c f6 4864 inb_S8x5120_S8x256_0_4864)
      (tripRun.sl.v10770 c XQ k) (tripRun.sl.v10781_raw c f9 k) (tripRun.sl.v10786_raw c f8 k)
      (tripRun.sl.v10794 c XQ k) (tripRun.sl.v10805_raw c f9 k) (tripRun.sl.v10810_raw c f8 k)) bitsLt_bf16_f32 := rfl

theorem step1_0 : tripRun.sl.v10878 c XQ f6 f8 f9 k = kstep accZero (xl c f6 0 inb_S8x5120_S8x256_0_0)
      (tripRun.sl.v10828 c XQ k) (tripRun.sl.v10839_raw c f9 k) (tripRun.sl.v10844_raw c f8 k)
      (tripRun.sl.v10852 c XQ k) (tripRun.sl.v10863_raw c f9 k) (tripRun.sl.v10868_raw c f8 k) := rfl
theorem step1_1 : tripRun.sl.v10930 c XQ f6 f8 f9 k = kstep (tripRun.sl.v10878 c XQ f6 f8 f9 k) (xl c f6 256 inb_S8x5120_S8x256_0_256)
      (tripRun.sl.v10880 c XQ k) (tripRun.sl.v10891_raw c f9 k) (tripRun.sl.v10896_raw c f8 k)
      (tripRun.sl.v10904 c XQ k) (tripRun.sl.v10915_raw c f9 k) (tripRun.sl.v10920_raw c f8 k) := rfl
theorem step1_2 : tripRun.sl.v10982 c XQ f6 f8 f9 k = kstep (tripRun.sl.v10930 c XQ f6 f8 f9 k) (xl c f6 512 inb_S8x5120_S8x256_0_512)
      (tripRun.sl.v10932 c XQ k) (tripRun.sl.v10943_raw c f9 k) (tripRun.sl.v10948_raw c f8 k)
      (tripRun.sl.v10956 c XQ k) (tripRun.sl.v10967_raw c f9 k) (tripRun.sl.v10972_raw c f8 k) := rfl
theorem step1_3 : tripRun.sl.v11034 c XQ f6 f8 f9 k = kstep (tripRun.sl.v10982 c XQ f6 f8 f9 k) (xl c f6 768 inb_S8x5120_S8x256_0_768)
      (tripRun.sl.v10984 c XQ k) (tripRun.sl.v10995_raw c f9 k) (tripRun.sl.v11000_raw c f8 k)
      (tripRun.sl.v11008 c XQ k) (tripRun.sl.v11019_raw c f9 k) (tripRun.sl.v11024_raw c f8 k) := rfl
theorem step1_4 : tripRun.sl.v11086 c XQ f6 f8 f9 k = kstep (tripRun.sl.v11034 c XQ f6 f8 f9 k) (xl c f6 1024 inb_S8x5120_S8x256_0_1024)
      (tripRun.sl.v11036 c XQ k) (tripRun.sl.v11047_raw c f9 k) (tripRun.sl.v11052_raw c f8 k)
      (tripRun.sl.v11060 c XQ k) (tripRun.sl.v11071_raw c f9 k) (tripRun.sl.v11076_raw c f8 k) := rfl
theorem step1_5 : tripRun.sl.v11138 c XQ f6 f8 f9 k = kstep (tripRun.sl.v11086 c XQ f6 f8 f9 k) (xl c f6 1280 inb_S8x5120_S8x256_0_1280)
      (tripRun.sl.v11088 c XQ k) (tripRun.sl.v11099_raw c f9 k) (tripRun.sl.v11104_raw c f8 k)
      (tripRun.sl.v11112 c XQ k) (tripRun.sl.v11123_raw c f9 k) (tripRun.sl.v11128_raw c f8 k) := rfl
theorem step1_6 : tripRun.sl.v11190 c XQ f6 f8 f9 k = kstep (tripRun.sl.v11138 c XQ f6 f8 f9 k) (xl c f6 1536 inb_S8x5120_S8x256_0_1536)
      (tripRun.sl.v11140 c XQ k) (tripRun.sl.v11151_raw c f9 k) (tripRun.sl.v11156_raw c f8 k)
      (tripRun.sl.v11164 c XQ k) (tripRun.sl.v11175_raw c f9 k) (tripRun.sl.v11180_raw c f8 k) := rfl
theorem step1_7 : tripRun.sl.v11242 c XQ f6 f8 f9 k = kstep (tripRun.sl.v11190 c XQ f6 f8 f9 k) (xl c f6 1792 inb_S8x5120_S8x256_0_1792)
      (tripRun.sl.v11192 c XQ k) (tripRun.sl.v11203_raw c f9 k) (tripRun.sl.v11208_raw c f8 k)
      (tripRun.sl.v11216 c XQ k) (tripRun.sl.v11227_raw c f9 k) (tripRun.sl.v11232_raw c f8 k) := rfl
theorem step1_8 : tripRun.sl.v11294 c XQ f6 f8 f9 k = kstep (tripRun.sl.v11242 c XQ f6 f8 f9 k) (xl c f6 2048 inb_S8x5120_S8x256_0_2048)
      (tripRun.sl.v11244 c XQ k) (tripRun.sl.v11255_raw c f9 k) (tripRun.sl.v11260_raw c f8 k)
      (tripRun.sl.v11268 c XQ k) (tripRun.sl.v11279_raw c f9 k) (tripRun.sl.v11284_raw c f8 k) := rfl
theorem step1_9 : tripRun.sl.v11346 c XQ f6 f8 f9 k = kstep (tripRun.sl.v11294 c XQ f6 f8 f9 k) (xl c f6 2304 inb_S8x5120_S8x256_0_2304)
      (tripRun.sl.v11296 c XQ k) (tripRun.sl.v11307_raw c f9 k) (tripRun.sl.v11312_raw c f8 k)
      (tripRun.sl.v11320 c XQ k) (tripRun.sl.v11331_raw c f9 k) (tripRun.sl.v11336_raw c f8 k) := rfl
theorem step1_10 : tripRun.sl.v11398 c XQ f6 f8 f9 k = kstep (tripRun.sl.v11346 c XQ f6 f8 f9 k) (xl c f6 2560 inb_S8x5120_S8x256_0_2560)
      (tripRun.sl.v11348 c XQ k) (tripRun.sl.v11359_raw c f9 k) (tripRun.sl.v11364_raw c f8 k)
      (tripRun.sl.v11372 c XQ k) (tripRun.sl.v11383_raw c f9 k) (tripRun.sl.v11388_raw c f8 k) := rfl
theorem step1_11 : tripRun.sl.v11450 c XQ f6 f8 f9 k = kstep (tripRun.sl.v11398 c XQ f6 f8 f9 k) (xl c f6 2816 inb_S8x5120_S8x256_0_2816)
      (tripRun.sl.v11400 c XQ k) (tripRun.sl.v11411_raw c f9 k) (tripRun.sl.v11416_raw c f8 k)
      (tripRun.sl.v11424 c XQ k) (tripRun.sl.v11435_raw c f9 k) (tripRun.sl.v11440_raw c f8 k) := rfl
theorem step1_12 : tripRun.sl.v11502 c XQ f6 f8 f9 k = kstep (tripRun.sl.v11450 c XQ f6 f8 f9 k) (xl c f6 3072 inb_S8x5120_S8x256_0_3072)
      (tripRun.sl.v11452 c XQ k) (tripRun.sl.v11463_raw c f9 k) (tripRun.sl.v11468_raw c f8 k)
      (tripRun.sl.v11476 c XQ k) (tripRun.sl.v11487_raw c f9 k) (tripRun.sl.v11492_raw c f8 k) := rfl
theorem step1_13 : tripRun.sl.v11554 c XQ f6 f8 f9 k = kstep (tripRun.sl.v11502 c XQ f6 f8 f9 k) (xl c f6 3328 inb_S8x5120_S8x256_0_3328)
      (tripRun.sl.v11504 c XQ k) (tripRun.sl.v11515_raw c f9 k) (tripRun.sl.v11520_raw c f8 k)
      (tripRun.sl.v11528 c XQ k) (tripRun.sl.v11539_raw c f9 k) (tripRun.sl.v11544_raw c f8 k) := rfl
theorem step1_14 : tripRun.sl.v11606 c XQ f6 f8 f9 k = kstep (tripRun.sl.v11554 c XQ f6 f8 f9 k) (xl c f6 3584 inb_S8x5120_S8x256_0_3584)
      (tripRun.sl.v11556 c XQ k) (tripRun.sl.v11567_raw c f9 k) (tripRun.sl.v11572_raw c f8 k)
      (tripRun.sl.v11580 c XQ k) (tripRun.sl.v11591_raw c f9 k) (tripRun.sl.v11596_raw c f8 k) := rfl
theorem step1_15 : tripRun.sl.v11658 c XQ f6 f8 f9 k = kstep (tripRun.sl.v11606 c XQ f6 f8 f9 k) (xl c f6 3840 inb_S8x5120_S8x256_0_3840)
      (tripRun.sl.v11608 c XQ k) (tripRun.sl.v11619_raw c f9 k) (tripRun.sl.v11624_raw c f8 k)
      (tripRun.sl.v11632 c XQ k) (tripRun.sl.v11643_raw c f9 k) (tripRun.sl.v11648_raw c f8 k) := rfl
theorem step1_16 : tripRun.sl.v11710 c XQ f6 f8 f9 k = kstep (tripRun.sl.v11658 c XQ f6 f8 f9 k) (xl c f6 4096 inb_S8x5120_S8x256_0_4096)
      (tripRun.sl.v11660 c XQ k) (tripRun.sl.v11671_raw c f9 k) (tripRun.sl.v11676_raw c f8 k)
      (tripRun.sl.v11684 c XQ k) (tripRun.sl.v11695_raw c f9 k) (tripRun.sl.v11700_raw c f8 k) := rfl
theorem step1_17 : tripRun.sl.v11762 c XQ f6 f8 f9 k = kstep (tripRun.sl.v11710 c XQ f6 f8 f9 k) (xl c f6 4352 inb_S8x5120_S8x256_0_4352)
      (tripRun.sl.v11712 c XQ k) (tripRun.sl.v11723_raw c f9 k) (tripRun.sl.v11728_raw c f8 k)
      (tripRun.sl.v11736 c XQ k) (tripRun.sl.v11747_raw c f9 k) (tripRun.sl.v11752_raw c f8 k) := rfl
theorem step1_18 : tripRun.sl.v11814 c XQ f6 f8 f9 k = kstep (tripRun.sl.v11762 c XQ f6 f8 f9 k) (xl c f6 4608 inb_S8x5120_S8x256_0_4608)
      (tripRun.sl.v11764 c XQ k) (tripRun.sl.v11775_raw c f9 k) (tripRun.sl.v11780_raw c f8 k)
      (tripRun.sl.v11788 c XQ k) (tripRun.sl.v11799_raw c f9 k) (tripRun.sl.v11804_raw c f8 k) := rfl
theorem last1 (arg0 : Memref sig .tc .vmem S8x5120 .bf16) (harg0 : arg0.IsWhole)
    (arg1 : Memref sig .tc .vmem S40x128 .i32) (harg1 : arg1.IsWhole)
    (arg5 : Memref sig .tc .vmem S8x17920 .bf16) (harg5 : arg5.IsWhole) :
    (tripRun c XQ f6 f8 f9 arg0 harg0 arg1 harg1 arg5 harg5 k).1.2 = truncf .bf16 (kstep (tripRun.sl.v11814 c XQ f6 f8 f9 k) (xl c f6 4864 inb_S8x5120_S8x256_0_4864)
      (tripRun.sl.v11816 c XQ k) (tripRun.sl.v11827_raw c f9 k) (tripRun.sl.v11832_raw c f8 k)
      (tripRun.sl.v11840 c XQ k) (tripRun.sl.v11851_raw c f9 k) (tripRun.sl.v11856_raw c f8 k)) bitsLt_bf16_f32 := rfl

end Steps

end Cert.KernelIdeal.Hand

end
-- ==== Proof.KernelIdealGather.lean ====
/-
  The gather of `KernelIdeal`: a tile of 128 gathered activations as twenty selections over pairs of source tiles, and the
  gathered buffer as the forty tiles written side by side.
-/
module

public import proofs.«01_k».proof.Proof.KernelIdealBody

@[expose] public section

noncomputable section

namespace Cert.KernelIdeal.Hand

open Cert.KernelIdeal Cert.KernelIdeal.Gen
open Idealize.ShloMosaic
open Idealize.ShloMosaic.TcCoe

variable {F : FTy → Type} [FloatOps F]

/-- The permutation's words, over sixteen rows. -/
def permRows (p : Vec F S1x128 .i32) : IVec S16x128 32 :=
  broadcastTo S16x128 (shapeCast S1x128 (shapeCast S1x128 p shapeCasts_S1x128_S1x128) shapeCasts_S1x128_S1x128) broadcasts_S1x128_S16x128
/-- A word's lane within its tile. -/
def laneOf (p : Vec F S1x128 .i32) : IVec S16x128 32 := andi (permRows p) (broadcast S16x128 127#32)
/-- A word's tile, of forty. -/
def tile40 (p : Vec F S1x128 .i32) : IVec S16x128 32 := shrsi (permRows p) (broadcast S16x128 7#32)
/-- Whether the tile lies in the upper half. -/
def upperOf (p : Vec F S1x128 .i32) : IVec S16x128 1 := cmpi .sge (tile40 p) (broadcast S16x128 20#32)
/-- A word's tile within its half. -/
def tile20 (p : Vec F S1x128 .i32) : IVec S16x128 32 := select (upperOf p) (subi (tile40 p) (broadcast S16x128 20#32)) (tile40 p)
/-- The lane as a gather index. -/
def laneIdx (p : Vec F S1x128 .i32) : IVec S16x128 32 :=
  shapeCast S16x128 (shapeCast S16x128x1 (select (cmpi .slt (laneOf p) (broadcast S16x128 0#32)) (addi (laneOf p) (broadcast S16x128 128#32)) (laneOf p))
    shapeCasts_S16x128_S16x128x1) shapeCasts_S16x128x1_S16x128
/-- One selection: where the word's tile is `i`, the source pair's lane. -/
def gstep (acc src : FVec F S16x128 .f32) (p : Vec F S1x128 .i32) (i : BitVec 32) : FVec F S16x128 .f32 :=
  select (cmpi .eq (tile20 p) (broadcast S16x128 i)) (dynamicGather 1 src (laneIdx p)) acc
/-- The activations as loaded. -/
def xin (v1 : Vec F S8x5120 .bf16) : FVec F S8x5120 .f32 := extf .f32 (shapeCast S8x5120 v1 shapeCasts_S8x5120_S8x5120) bitsLt_bf16_f32
/-- Two source tiles, one over the other. -/
def srcPair (x : FVec F S8x5120 .f32) (a b : ℕ) (ha : S8x5120.Slices ![0, a] S8x128) (hb : S8x5120.Slices ![0, b] S8x128) : FVec F S16x128 .f32 :=
  concatenate S16x128 0 [⟨S8x128, extractStridedSlice S8x128 ![0, a] x ha⟩, ⟨S8x128, extractStridedSlice S8x128 ![0, b] x hb⟩] concatenates_S8x128_S8x128_S16x128_d0
/-- The half the word's tile lies in. -/
def pickHalf (p : Vec F S1x128 .i32) (acc : FVec F S16x128 .f32) : FVec F S8x128 .bf16 :=
  shapeCast S8x128 (truncf .bf16 (select (extractStridedSlice S8x128 ![0, 0] (upperOf p) slices_S16x128_o0_0_S8x128)
    (extractStridedSlice S8x128 ![8, 0] acc slices_S16x128_o8_0_S8x128) (extractStridedSlice S8x128 ![0, 0] acc slices_S16x128_o0_0_S8x128)) bitsLt_bf16_f32)
    shapeCasts_S8x128_S8x128
/-- The selections in order. -/
def gacc0 (x : FVec F S8x5120 .f32) (p : Vec F S1x128 .i32) : FVec F S16x128 .f32 := broadcast S16x128 (Scalar.ofBits .f32 0x00000000#32)
def gacc1 (x : FVec F S8x5120 .f32) (p : Vec F S1x128 .i32) : FVec F S16x128 .f32 := gstep (gacc0 x p) (srcPair x 0 2560 slices_S8x5120_o0_0_S8x128 slices_S8x5120_o0_2560_S8x128) p 0#32
def gacc2 (x : FVec F S8x5120 .f32) (p : Vec F S1x128 .i32) : FVec F S16x128 .f32 := gstep (gacc1 x p) (srcPair x 128 2688 slices_S8x5120_o0_128_S8x128 slices_S8x5120_o0_2688_S8x128) p 1#32
def gacc3 (x : FVec F S8x5120 .f32) (p : Vec F S1x128 .i32) : FVec F S16x128 .f32 := gstep (gacc2 x p) (srcPair x 256 2816 slices_S8x5120_o0_256_S8x128 slices_S8x5120_o0_2816_S8x128) p 2#32
def gacc4 (x : FVec F S8x5120 .f32) (p : Vec F S1x128 .i32) : FVec F S16x128 .f32 := gstep (gacc3 x p) (srcPair x 384 2944 slices_S8x5120_o0_384_S8x128 slices_S8x5120_o0_2944_S8x128) p 3#32
def gacc5 (x : FVec F S8x5120 .f32) (p : Vec F S1x128 .i32) : FVec F S16x128 .f32 := gstep (gacc4 x p) (srcPair x 512 3072 slices_S8x5120_o0_512_S8x128 slices_S8x5120_o0_3072_S8x128) p 4#32
def gacc6 (x : FVec F S8x5120 .f32) (p : Vec F S1x128 .i32) : FVec F S16x128 .f32 := gstep (gacc5 x p) (srcPair x 640 3200 slices_S8x5120_o0_640_S8x128 slices_S8x5120_o0_3200_S8x128) p 5#32
def gacc7 (x : FVec F S8x5120 .f32) (p : Vec F S1x128 .i32) : FVec F S16x128 .f32 := gstep (gacc6 x p) (srcPair x 768 3328 slices_S8x5120_o0_768_S8x128 slices_S8x5120_o0_3328_S8x128) p 6#32
def gacc8 (x : FVec F S8x5120 .f32) (p : Vec F S1x128 .i32) : FVec F S16x128 .f32 := gstep (gacc7 x p) (srcPair x 896 3456 slices_S8x5120_o0_896_S8x128 slices_S8x5120_o0_3456_S8x128) p 7#32
def gacc9 (x : FVec F S8x5120 .f32) (p : Vec F S1x128 .i32) : FVec F S16x128 .f32 := gstep (gacc8 x p) (srcPair x 1024 3584 slices_S8x5120_o0_1024_S8x128 slices_S8x5120_o0_3584_S8x128) p 8#32
def gacc10 (x : FVec F S8x5120 .f32) (p : Vec F S1x128 .i32) : FVec F S16x128 .f32 := gstep (gacc9 x p) (srcPair x 1152 3712 slices_S8x5120_o0_1152_S8x128 slices_S8x5120_o0_3712_S8x128) p 9#32
def gacc11 (x : FVec F S8x5120 .f32) (p : Vec F S1x128 .i32) : FVec F S16x128 .f32 := gstep (gacc10 x p) (srcPair x 1280 3840 slices_S8x5120_o0_1280_S8x128 slices_S8x5120_o0_3840_S8x128) p 10#32
def gacc12 (x : FVec F S8x5120 .f32) (p : Vec F S1x128 .i32) : FVec F S16x128 .f32 := gstep (gacc11 x p) (srcPair x 1408 3968 slices_S8x5120_o0_1408_S8x128 slices_S8x5120_o0_3968_S8x128) p 11#32
def gacc13 (x : FVec F S8x5120 .f32) (p : Vec F S1x128 .i32) : FVec F S16x128 .f32 := gstep (gacc12 x p) (srcPair x 1536 4096 slices_S8x5120_o0_1536_S8x128 slices_S8x5120_o0_4096_S8x128) p 12#32
def gacc14 (x : FVec F S8x5120 .f32) (p : Vec F S1x128 .i32) : FVec F S16x128 .f32 := gstep (gacc13 x p) (srcPair x 1664 4224 slices_S8x5120_o0_1664_S8x128 slices_S8x5120_o0_4224_S8x128) p 13#32
def gacc15 (x : FVec F S8x5120 .f32) (p : Vec F S1x128 .i32) : FVec F S16x128 .f32 := gstep (gacc14 x p) (srcPair x 1792 4352 slices_S8x5120_o0_1792_S8x128 slices_S8x5120_o0_4352_S8x128) p 14#32
def gacc16 (x : FVec F S8x5120 .f32) (p : Vec F S1x128 .i32) : FVec F S16x128 .f32 := gstep (gacc15 x p) (srcPair x 1920 4480 slices_S8x5120_o0_1920_S8x128 slices_S8x5120_o0_4480_S8x128) p 15#32
def gacc17 (x : FVec F S8x5120 .f32) (p : Vec F S1x128 .i32) : FVec F S16x128 .f32 := gstep (gacc16 x p) (srcPair x 2048 4608 slices_S8x5120_o0_2048_S8x128 slices_S8x5120_o0_4608_S8x128) p 16#32
def gacc18 (x : FVec F S8x5120 .f32) (p : Vec F S1x128 .i32) : FVec F S16x128 .f32 := gstep (gacc17 x p) (srcPair x 2176 4736 slices_S8x5120_o0_2176_S8x128 slices_S8x5120_o0_4736_S8x128) p 17#32
def gacc19 (x : FVec F S8x5120 .f32) (p : Vec F S1x128 .i32) : FVec F S16x128 .f32 := gstep (gacc18 x p) (srcPair x 2304 4864 slices_S8x5120_o0_2304_S8x128 slices_S8x5120_o0_4864_S8x128) p 18#32
def gacc20 (x : FVec F S8x5120 .f32) (p : Vec F S1x128 .i32) : FVec F S16x128 .f32 := gstep (gacc19 x p) (srcPair x 2432 4992 slices_S8x5120_o0_2432_S8x128 slices_S8x5120_o0_4992_S8x128) p 19#32
/-- A tile of gathered activations. -/
def gat (x : FVec F S8x5120 .f32) (p : Vec F S1x128 .i32) : FVec F S8x128 .bf16 := pickHalf p (gacc20 x p)

section Tiles
variable (c : Dev nD) (arg0 : Memref sig .tc .vmem S8x5120 .bf16) (arg1 : Memref sig .tc .vmem S40x128 .i32) (f0 : Bf (F := F) c arg0) (f1 : Bf (F := F) c arg1)

/-- The activations, the permutation's words of tile `j`. -/
def xld : FVec F S8x5120 .f32 := xin (View.readAt (Elt F) arg0.view (Rect.unit (s := S8x5120) ![0, 0] S8x5120.size inb_S8x5120_S8x5120_0_0).toLoadRect f0)
def pld (j : ℕ) (h : ∀ a, (![j, 0] : Fin 2 → ℕ) a + S1x128.size a ≤ S40x128.size a) : Vec F S1x128 .i32 :=
  View.readAt (Elt F) arg1.view (Rect.unit (s := S40x128) ![j, 0] S1x128.size h).toLoadRect f1

theorem tile_0 : bodyRun.sl.H6_1 c arg0 arg1 f0 f1 = ⟨Rect.unit (s := S8x5120) ![0, 0] S8x128.size inb_S8x5120_S8x128_0_0, gat (xld c arg0 f0) (pld c arg1 f1 0 inb_S40x128_S1x128_0_0)⟩ :: [] := rfl
theorem tile_1 : bodyRun.sl.H6_2 c arg0 arg1 f0 f1 = ⟨Rect.unit (s := S8x5120) ![0, 128] S8x128.size inb_S8x5120_S8x128_0_128, gat (xld c arg0 f0) (pld c arg1 f1 1 inb_S40x128_S1x128_1_0)⟩ :: bodyRun.sl.H6_1 c arg0 arg1 f0 f1 := rfl
theorem tile_2 : bodyRun.sl.H6_3 c arg0 arg1 f0 f1 = ⟨Rect.unit (s := S8x5120) ![0, 256] S8x128.size inb_S8x5120_S8x128_0_256, gat (xld c arg0 f0) (pld c arg1 f1 2 inb_S40x128_S1x128_2_0)⟩ :: bodyRun.sl.H6_2 c arg0 arg1 f0 f1 := rfl
theorem tile_3 : bodyRun.sl.H6_4 c arg0 arg1 f0 f1 = ⟨Rect.unit (s := S8x5120) ![0, 384] S8x128.size inb_S8x5120_S8x128_0_384, gat (xld c arg0 f0) (pld c arg1 f1 3 inb_S40x128_S1x128_3_0)⟩ :: bodyRun.sl.H6_3 c arg0 arg1 f0 f1 := rfl
theorem tile_4 : bodyRun.sl.H6_5 c arg0 arg1 f0 f1 = ⟨Rect.unit (s := S8x5120) ![0, 512] S8x128.size inb_S8x5120_S8x128_0_512, gat (xld c arg0 f0) (pld c arg1 f1 4 inb_S40x128_S1x128_4_0)⟩ :: bodyRun.sl.H6_4 c arg0 arg1 f0 f1 := rfl
theorem tile_5 : bodyRun.sl.H6_6 c arg0 arg1 f0 f1 = ⟨Rect.unit (s := S8x5120) ![0, 640] S8x128.size inb_S8x5120_S8x128_0_640, gat (xld c arg0 f0) (pld c arg1 f1 5 inb_S40x128_S1x128_5_0)⟩ :: bodyRun.sl.H6_5 c arg0 arg1 f0 f1 := rfl
theorem tile_6 : bodyRun.sl.H6_7 c arg0 arg1 f0 f1 = ⟨Rect.unit (s := S8x5120) ![0, 768] S8x128.size inb_S8x5120_S8x128_0_768, gat (xld c arg0 f0) (pld c arg1 f1 6 inb_S40x128_S1x128_6_0)⟩ :: bodyRun.sl.H6_6 c arg0 arg1 f0 f1 := rfl
theorem tile_7 : bodyRun.sl.H6_8 c arg0 arg1 f0 f1 = ⟨Rect.unit (s := S8x5120) ![0, 896] S8x128.size inb_S8x5120_S8x128_0_896, gat (xld c arg0 f0) (pld c arg1 f1 7 inb_S40x128_S1x128_7_0)⟩ :: bodyRun.sl.H6_7 c arg0 arg1 f0 f1 := rfl
theorem tile_8 : bodyRun.sl.H6_9 c arg0 arg1 f0 f1 = ⟨Rect.unit (s := S8x5120) ![0, 1024] S8x128.size inb_S8x5120_S8x128_0_1024, gat (xld c arg0 f0) (pld c arg1 f1 8 inb_S40x128_S1x128_8_0)⟩ :: bodyRun.sl.H6_8 c arg0 arg1 f0 f1 := rfl
theorem tile_9 : bodyRun.sl.H6_10 c arg0 arg1 f0 f1 = ⟨Rect.unit (s := S8x5120) ![0, 1152] S8x128.size inb_S8x5120_S8x128_0_1152, gat (xld c arg0 f0) (pld c arg1 f1 9 inb_S40x128_S1x128_9_0)⟩ :: bodyRun.sl.H6_9 c arg0 arg1 f0 f1 := rfl
theorem tile_10 : bodyRun.sl.H6_11 c arg0 arg1 f0 f1 = ⟨Rect.unit (s := S8x5120) ![0, 1280] S8x128.size inb_S8x5120_S8x128_0_1280, gat (xld c arg0 f0) (pld c arg1 f1 10 inb_S40x128_S1x128_10_0)⟩ :: bodyRun.sl.H6_10 c arg0 arg1 f0 f1 := rfl
theorem tile_11 : bodyRun.sl.H6_12 c arg0 arg1 f0 f1 = ⟨Rect.unit (s := S8x5120) ![0, 1408] S8x128.size inb_S8x5120_S8x128_0_1408, gat (xld c arg0 f0) (pld c arg1 f1 11 inb_S40x128_S1x128_11_0)⟩ :: bodyRun.sl.H6_11 c arg0 arg1 f0 f1 := rfl
theorem tile_12 : bodyRun.sl.H6_13 c arg0 arg1 f0 f1 = ⟨Rect.unit (s := S8x5120) ![0, 1536] S8x128.size inb_S8x5120_S8x128_0_1536, gat (xld c arg0 f0) (pld c arg1 f1 12 inb_S40x128_S1x128_12_0)⟩ :: bodyRun.sl.H6_12 c arg0 arg1 f0 f1 := rfl
theorem tile_13 : bodyRun.sl.H6_14 c arg0 arg1 f0 f1 = ⟨Rect.unit (s := S8x5120) ![0, 1664] S8x128.size inb_S8x5120_S8x128_0_1664, gat (xld c arg0 f0) (pld c arg1 f1 13 inb_S40x128_S1x128_13_0)⟩ :: bodyRun.sl.H6_13 c arg0 arg1 f0 f1 := rfl
theorem tile_14 : bodyRun.sl.H6_15 c arg0 arg1 f0 f1 = ⟨Rect.unit (s := S8x5120) ![0, 1792] S8x128.size inb_S8x5120_S8x128_0_1792, gat (xld c arg0 f0) (pld c arg1 f1 14 inb_S40x128_S1x128_14_0)⟩ :: bodyRun.sl.H6_14 c arg0 arg1 f0 f1 := rfl
theorem tile_15 : bodyRun.sl.H6_16 c arg0 arg1 f0 f1 = ⟨Rect.unit (s := S8x5120) ![0, 1920] S8x128.size inb_S8x5120_S8x128_0_1920, gat (xld c arg0 f0) (pld c arg1 f1 15 inb_S40x128_S1x128_15_0)⟩ :: bodyRun.sl.H6_15 c arg0 arg1 f0 f1 := rfl
theorem tile_16 : bodyRun.sl.H6_17 c arg0 arg1 f0 f1 = ⟨Rect.unit (s := S8x5120) ![0, 2048] S8x128.size inb_S8x5120_S8x128_0_2048, gat (xld c arg0 f0) (pld c arg1 f1 16 inb_S40x128_S1x128_16_0)⟩ :: bodyRun.sl.H6_16 c arg0 arg1 f0 f1 := rfl
theorem tile_17 : bodyRun.sl.H6_18 c arg0 arg1 f0 f1 = ⟨Rect.unit (s := S8x5120) ![0, 2176] S8x128.size inb_S8x5120_S8x128_0_2176, gat (xld c arg0 f0) (pld c arg1 f1 17 inb_S40x128_S1x128_17_0)⟩ :: bodyRun.sl.H6_17 c arg0 arg1 f0 f1 := rfl
theorem tile_18 : bodyRun.sl.H6_19 c arg0 arg1 f0 f1 = ⟨Rect.unit (s := S8x5120) ![0, 2304] S8x128.size inb_S8x5120_S8x128_0_2304, gat (xld c arg0 f0) (pld c arg1 f1 18 inb_S40x128_S1x128_18_0)⟩ :: bodyRun.sl.H6_18 c arg0 arg1 f0 f1 := rfl
theorem tile_19 : bodyRun.sl.H6_20 c arg0 arg1 f0 f1 = ⟨Rect.unit (s := S8x5120) ![0, 2432] S8x128.size inb_S8x5120_S8x128_0_2432, gat (xld c arg0 f0) (pld c arg1 f1 19 inb_S40x128_S1x128_19_0)⟩ :: bodyRun.sl.H6_19 c arg0 arg1 f0 f1 := rfl
theorem tile_20 : bodyRun.sl.H6_21 c arg0 arg1 f0 f1 = ⟨Rect.unit (s := S8x5120) ![0, 2560] S8x128.size inb_S8x5120_S8x128_0_2560, gat (xld c arg0 f0) (pld c arg1 f1 20 inb_S40x128_S1x128_20_0)⟩ :: bodyRun.sl.H6_20 c arg0 arg1 f0 f1 := rfl
theorem tile_21 : bodyRun.sl.H6_22 c arg0 arg1 f0 f1 = ⟨Rect.unit (s := S8x5120) ![0, 2688] S8x128.size inb_S8x5120_S8x128_0_2688, gat (xld c arg0 f0) (pld c arg1 f1 21 inb_S40x128_S1x128_21_0)⟩ :: bodyRun.sl.H6_21 c arg0 arg1 f0 f1 := rfl
theorem tile_22 : bodyRun.sl.H6_23 c arg0 arg1 f0 f1 = ⟨Rect.unit (s := S8x5120) ![0, 2816] S8x128.size inb_S8x5120_S8x128_0_2816, gat (xld c arg0 f0) (pld c arg1 f1 22 inb_S40x128_S1x128_22_0)⟩ :: bodyRun.sl.H6_22 c arg0 arg1 f0 f1 := rfl
theorem tile_23 : bodyRun.sl.H6_24 c arg0 arg1 f0 f1 = ⟨Rect.unit (s := S8x5120) ![0, 2944] S8x128.size inb_S8x5120_S8x128_0_2944, gat (xld c arg0 f0) (pld c arg1 f1 23 inb_S40x128_S1x128_23_0)⟩ :: bodyRun.sl.H6_23 c arg0 arg1 f0 f1 := rfl
theorem tile_24 : bodyRun.sl.H6_25 c arg0 arg1 f0 f1 = ⟨Rect.unit (s := S8x5120) ![0, 3072] S8x128.size inb_S8x5120_S8x128_0_3072, gat (xld c arg0 f0) (pld c arg1 f1 24 inb_S40x128_S1x128_24_0)⟩ :: bodyRun.sl.H6_24 c arg0 arg1 f0 f1 := rfl
theorem tile_25 : bodyRun.sl.H6_26 c arg0 arg1 f0 f1 = ⟨Rect.unit (s := S8x5120) ![0, 3200] S8x128.size inb_S8x5120_S8x128_0_3200, gat (xld c arg0 f0) (pld c arg1 f1 25 inb_S40x128_S1x128_25_0)⟩ :: bodyRun.sl.H6_25 c arg0 arg1 f0 f1 := rfl
theorem tile_26 : bodyRun.sl.H6_27 c arg0 arg1 f0 f1 = ⟨Rect.unit (s := S8x5120) ![0, 3328] S8x128.size inb_S8x5120_S8x128_0_3328, gat (xld c arg0 f0) (pld c arg1 f1 26 inb_S40x128_S1x128_26_0)⟩ :: bodyRun.sl.H6_26 c arg0 arg1 f0 f1 := rfl
theorem tile_27 : bodyRun.sl.H6_28 c arg0 arg1 f0 f1 = ⟨Rect.unit (s := S8x5120) ![0, 3456] S8x128.size inb_S8x5120_S8x128_0_3456, gat (xld c arg0 f0) (pld c arg1 f1 27 inb_S40x128_S1x128_27_0)⟩ :: bodyRun.sl.H6_27 c arg0 arg1 f0 f1 := rfl
theorem tile_28 : bodyRun.sl.H6_29 c arg0 arg1 f0 f1 = ⟨Rect.unit (s := S8x5120) ![0, 3584] S8x128.size inb_S8x5120_S8x128_0_3584, gat (xld c arg0 f0) (pld c arg1 f1 28 inb_S40x128_S1x128_28_0)⟩ :: bodyRun.sl.H6_28 c arg0 arg1 f0 f1 := rfl
theorem tile_29 : bodyRun.sl.H6_30 c arg0 arg1 f0 f1 = ⟨Rect.unit (s := S8x5120) ![0, 3712] S8x128.size inb_S8x5120_S8x128_0_3712, gat (xld c arg0 f0) (pld c arg1 f1 29 inb_S40x128_S1x128_29_0)⟩ :: bodyRun.sl.H6_29 c arg0 arg1 f0 f1 := rfl
theorem tile_30 : bodyRun.sl.H6_31 c arg0 arg1 f0 f1 = ⟨Rect.unit (s := S8x5120) ![0, 3840] S8x128.size inb_S8x5120_S8x128_0_3840, gat (xld c arg0 f0) (pld c arg1 f1 30 inb_S40x128_S1x128_30_0)⟩ :: bodyRun.sl.H6_30 c arg0 arg1 f0 f1 := rfl
theorem tile_31 : bodyRun.sl.H6_32 c arg0 arg1 f0 f1 = ⟨Rect.unit (s := S8x5120) ![0, 3968] S8x128.size inb_S8x5120_S8x128_0_3968, gat (xld c arg0 f0) (pld c arg1 f1 31 inb_S40x128_S1x128_31_0)⟩ :: bodyRun.sl.H6_31 c arg0 arg1 f0 f1 := rfl
theorem tile_32 : bodyRun.sl.H6_33 c arg0 arg1 f0 f1 = ⟨Rect.unit (s := S8x5120) ![0, 4096] S8x128.size inb_S8x5120_S8x128_0_4096, gat (xld c arg0 f0) (pld c arg1 f1 32 inb_S40x128_S1x128_32_0)⟩ :: bodyRun.sl.H6_32 c arg0 arg1 f0 f1 := rfl
theorem tile_33 : bodyRun.sl.H6_34 c arg0 arg1 f0 f1 = ⟨Rect.unit (s := S8x5120) ![0, 4224] S8x128.size inb_S8x5120_S8x128_0_4224, gat (xld c arg0 f0) (pld c arg1 f1 33 inb_S40x128_S1x128_33_0)⟩ :: bodyRun.sl.H6_33 c arg0 arg1 f0 f1 := rfl
theorem tile_34 : bodyRun.sl.H6_35 c arg0 arg1 f0 f1 = ⟨Rect.unit (s := S8x5120) ![0, 4352] S8x128.size inb_S8x5120_S8x128_0_4352, gat (xld c arg0 f0) (pld c arg1 f1 34 inb_S40x128_S1x128_34_0)⟩ :: bodyRun.sl.H6_34 c arg0 arg1 f0 f1 := rfl
theorem tile_35 : bodyRun.sl.H6_36 c arg0 arg1 f0 f1 = ⟨Rect.unit (s := S8x5120) ![0, 4480] S8x128.size inb_S8x5120_S8x128_0_4480, gat (xld c arg0 f0) (pld c arg1 f1 35 inb_S40x128_S1x128_35_0)⟩ :: bodyRun.sl.H6_35 c arg0 arg1 f0 f1 := rfl
theorem tile_36 : bodyRun.sl.H6_37 c arg0 arg1 f0 f1 = ⟨Rect.unit (s := S8x5120) ![0, 4608] S8x128.size inb_S8x5120_S8x128_0_4608, gat (xld c arg0 f0) (pld c arg1 f1 36 inb_S40x128_S1x128_36_0)⟩ :: bodyRun.sl.H6_36 c arg0 arg1 f0 f1 := rfl
theorem tile_37 : bodyRun.sl.H6_38 c arg0 arg1 f0 f1 = ⟨Rect.unit (s := S8x5120) ![0, 4736] S8x128.size inb_S8x5120_S8x128_0_4736, gat (xld c arg0 f0) (pld c arg1 f1 37 inb_S40x128_S1x128_37_0)⟩ :: bodyRun.sl.H6_37 c arg0 arg1 f0 f1 := rfl
theorem tile_38 : bodyRun.sl.H6_39 c arg0 arg1 f0 f1 = ⟨Rect.unit (s := S8x5120) ![0, 4864] S8x128.size inb_S8x5120_S8x128_0_4864, gat (xld c arg0 f0) (pld c arg1 f1 38 inb_S40x128_S1x128_38_0)⟩ :: bodyRun.sl.H6_38 c arg0 arg1 f0 f1 := rfl
theorem tile_39 : bodyRun.sl.H6_40 c arg0 arg1 f0 f1 = ⟨Rect.unit (s := S8x5120) ![0, 4992] S8x128.size inb_S8x5120_S8x128_0_4992, gat (xld c arg0 f0) (pld c arg1 f1 39 inb_S40x128_S1x128_39_0)⟩ :: bodyRun.sl.H6_39 c arg0 arg1 f0 f1 := rfl

end Tiles

end Cert.KernelIdeal.Hand

end
-- ==== Proof.KernelIdealValues.lean ====
/-
  What one step of `KernelIdeal` computes over the extended reals, element by element.
-/
module

public import proofs.«01_k».proof.Proof.KernelIdealSteps
public import proofs.«01_k».proof.Proof.KernelIdealGather
public import Idealize.ShloMosaic.Lib.Pointwise
public import Idealize.ShloMosaic.Lib.MatmulPlain

@[expose] public section

noncomputable section

namespace Cert.KernelIdeal.Val

open Cert.KernelIdeal Cert.KernelIdeal.Gen
open Cert.KernelIdeal.Hand hiding ix1 ix2
open Idealize.ShloMosaic
open Idealize.ShloMosaic.TcCoe

/-- A byte's low nibble or its high one, as a number. -/
def nib (w : BitVec 8) (p : ℕ) : EReal := if p = 0 then (((w &&& 15#8).toNat : ℝ) : EReal) else (((w >>> 4).toNat : ℝ) : EReal)

theorem nib_zero : ∀ w : BitVec 8, (IntOp.andi (BitVec.setWidth 32 w) 15#32).toInt = ((w &&& 15#8).toNat : ℤ) := by decide +kernel
theorem nib_one : ∀ w : BitVec 8, (IntOp.shrsi .vector (BitVec.setWidth 32 w) 4#32).toInt = ((w >>> 4).toNat : ℤ) := by decide +kernel

theorem spread_apply (r : Vec Ideal S1x2x256 .bf16) (a : Fin 128) (j : Fin 256) :
    spread (F := Ideal) r (ix2 a j) = r (ix3 0 0 j) := by
  unfold spread
  pointwise
  done

theorem nibRows_apply (q : Vec Ideal S1x64x256 .i8) (a : Fin 128) (j : Fin 256) :
    nibRows (F := Ideal) q (ix2 a j) = nib (q (ix3 0 ⟨a.val / 2, by omega⟩ j)) (a.val % 2) := by
  unfold nibRows
  pointwise
  unfold nib
  split
  · show (((IntOp.andi (BitVec.setWidth 32 _) 15#32).toInt : ℝ) : EReal) = _
    rw [nib_zero, Int.cast_natCast]
  · show (((IntOp.shrsi .vector (BitVec.setWidth 32 _) 4#32).toInt : ℝ) : EReal) = _
    rw [nib_one, Int.cast_natCast]

theorem deq_apply (q : Vec Ideal S1x64x256 .i8) (z s : Vec Ideal S1x2x256 .bf16) (a : Fin 128) (j : Fin 256) :
    deq (F := Ideal) q z s (ix2 a j) = (nib (q (ix3 0 ⟨a.val / 2, by omega⟩ j)) (a.val % 2) - z (ix3 0 0 j)) * s (ix3 0 0 j) := by
  rw [← nibRows_apply, ← spread_apply z a j, ← spread_apply s a j]
  rfl

theorem kstep_apply (acc : FVec Ideal S8x256 .f32) (x : Vec Ideal S8x256 .bf16) (q0 : Vec Ideal S1x64x256 .i8) (z0 s0 : Vec Ideal S1x2x256 .bf16)
    (q1 : Vec Ideal S1x64x256 .i8) (z1 s1 : Vec Ideal S1x2x256 .bf16) (b : Fin 8) (j : Fin 256) :
    kstep acc x q0 z0 s0 q1 z1 s1 (ix2 b j) = acc (ix2 b j) + ∑ r : Fin 256, x (ix2 b r) *
      (if h : r.val < 128 then deq q0 z0 s0 (ix2 ⟨r.val, h⟩ j) else deq q1 z1 s1 (ix2 ⟨r.val - 128, by omega⟩ j)) := by
  unfold kstep
  pointwise [dot_S8x256_S256x256_S8x256_1_0_0_1_n_n]

theorem accZero_apply (i : S8x256.Idx) : accZero (F := Ideal) i = 0 := by
  unfold accZero
  exact Ideal.ofBits_zero_f32

/-- A step extends a sum over the input features by 256. -/
theorem kstep_sum (X W : ℕ → EReal) (n : ℕ) (acc : FVec Ideal S8x256 .f32) (x : Vec Ideal S8x256 .bf16) (q0 : Vec Ideal S1x64x256 .i8) (z0 s0 : Vec Ideal S1x2x256 .bf16)
    (q1 : Vec Ideal S1x64x256 .i8) (z1 s1 : Vec Ideal S1x2x256 .bf16) (b : Fin 8) (j : Fin 256)
    (hacc : acc (ix2 b j) = ∑ m ∈ Finset.range (256 * n), X m * W m)
    (hx : ∀ r : Fin 256, x (ix2 b r) = X (256 * n + r.val))
    (h0 : ∀ a : Fin 128, deq q0 z0 s0 (ix2 a j) = W (128 * (2 * n) + a.val))
    (h1 : ∀ a : Fin 128, deq q1 z1 s1 (ix2 a j) = W (128 * (2 * n + 1) + a.val)) :
    kstep acc x q0 z0 s0 q1 z1 s1 (ix2 b j) = ∑ m ∈ Finset.range (256 * (n + 1)), X m * W m := by
  rw [kstep_apply, hacc, Nat.mul_succ, Finset.sum_range_add, Finset.sum_range (n := 256)]
  refine congrArg (_ + ·) (Finset.sum_congr rfl fun r _ => ?_)
  rw [hx r]
  split
  · rw [h0]; congr 2; show 128 * (2 * n) + r.val = _; omega
  · rw [h1]; congr 2; show 128 * (2 * n + 1) + (r.val - 128) = _; omega

end Cert.KernelIdeal.Val

end
-- ==== Proof.KernelIdealRows.lean ====
/-
  What the loads of scales and zero points in `KernelIdeal`'s main loop read over the extended reals.
-/
module

public import proofs.«01_k».proof.Proof.KernelIdealValues

@[expose] public section

noncomputable section

namespace Cert.KernelIdeal.Val

open Cert.KernelIdeal Cert.KernelIdeal.Gen
open Cert.KernelIdeal.Hand hiding ix1 ix2
open Idealize.ShloMosaic
open Idealize.ShloMosaic.TcCoe

theorem pay3_apply (v : Vec Ideal S40x512 .bf16) (g : Fin 40) (n : Fin 512) :
    k0_pay3 (F := Ideal) v (ix3 g 0 n) = v (ix2 g n) := by
  unfold k0_pay3
  pointwise

theorem pay5_apply (v : Vec Ideal S20x512 .i8) (g : Fin 20) (n : Fin 512) :
    k0_pay5 (F := Ideal) v (ix3 g 0 n) = nib (v (ix2 g n)) 0 := by
  unfold k0_pay5 k0_pay4
  pointwise
  unfold nib
  rw [if_pos rfl]
  show (((IntOp.andi (BitVec.setWidth 32 _) 15#32).toInt : ℝ) : EReal) = _
  rw [nib_zero, Int.cast_natCast]

theorem pay9_apply (v : Vec Ideal S20x512 .i8) (g : Fin 20) (n : Fin 512) :
    k0_pay9 (F := Ideal) (k0_pay7 v) (k0_pay8 v) (ix3 g 0 n) = nib (v (ix2 g n)) 1 := by
  unfold k0_pay9 k0_pay8 k0_pay7 k0_pay6 k0_pay4
  pointwise
  unfold nib
  rw [if_neg (by decide)]
  show (((IntOp.shrsi .vector (BitVec.setWidth 32 _) 4#32).toInt : ℝ) : EReal) = _
  rw [nib_one, Int.cast_natCast]

section Loads
variable (c : Dev nD) (f8 : Bf (F := Ideal) c svM) (f9 : Bf (F := Ideal) c zvM) (k : Fin k0_t2_loop.trips) (s : Fin 35) (hs : k.val = s.val)

theorem row_idx (g tc : ℕ) (h : ∀ a, (![g, 0, tc] : Fin 3 → ℕ) a + S1x2x256.size a ≤ S40x2x512.size a) (j : Fin 256)
    (hg : g < 40) (ht : tc + j.val < 512) :
    (Rect.unit (s := S40x2x512) ![g, 0, tc] S1x2x256.size h).toLoadRect.idx (ix3 0 0 j) = (ix3 ⟨g, hg⟩ 0 ⟨tc + j.val, ht⟩ : S40x2x512.Idx) := by
  funext x; apply Fin.ext
  match x with
  | ⟨0, _⟩ => show g + 1 * 0 = g; omega
  | ⟨1, _⟩ => show 0 + 1 * 0 = 0; omega
  | ⟨2, _⟩ => show tc + 1 * j.val = tc + j.val; omega

theorem sbM_cov (L) (r : LoadRect S40x2x512) (x : r.shape.Idx) :
    sbM.view.readCov (Val := Elt Ideal) L r x = sbM.view.read (Elt Ideal) (sbM.view.writes (Elt Ideal) sbM.view.junk L) (r.idx x) := rfl
theorem zbM_cov (L) (r : LoadRect S40x2x512) (x : r.shape.Idx) :
    zbM.view.readCov (Val := Elt Ideal) L r x = zbM.view.read (Elt Ideal) (zbM.view.writes (Elt Ideal) zbM.view.junk L) (r.idx x) := rfl
theorem svM_load (r : LoadRect S40x17920) (f : Bf (F := Ideal) c svM) (x : r.shape.Idx) :
    View.readAt (Elt Ideal) svM.view r f x = (f : S40x17920.Idx → EReal) (r.idx x) := rfl
theorem zvM_load (r : LoadRect S20x17920) (f : Bf (F := Ideal) c zvM) (x : r.shape.Idx) :
    View.readAt (Elt Ideal) zvM.view r f x = (f : S20x17920.Idx → BitVec 8) (r.idx x) := rfl

include hs in
/-- A load of one row of scales. -/
theorem sl_apply (g tc : ℕ) (h : ∀ a, (![g, 0, tc] : Fin 3 → ℕ) a + S1x2x256.size a ≤ S40x2x512.size a) (j : Fin 256)
    (hg : g < 40) (ht : tc + j.val < 512) :
    sbM.view.readCov (Val := Elt Ideal) (tripRun.sl.H10_1 c f8 k) (Rect.unit (s := S40x2x512) ![g, 0, tc] S1x2x256.size h).toLoadRect (ix3 0 0 j)
      = (f8 : S40x17920.Idx → EReal) (ix2 ⟨g, hg⟩ ⟨512 * s.val + (tc + j.val), by omega⟩) := by
  rw [sbM_cov, row_idx g tc h j hg ht]
  unfold tripRun.sl.H10_1
  refine (View.read_writes_cons_unit_of_mem sbM.view _ _ _ _ _ (ix3 ⟨g, hg⟩ 0 ⟨tc + j.val, ht⟩ : S40x2x512.Idx) rfl ?_).trans ?_
  · intro x
    match x with
    | ⟨0, _⟩ => show g = 0 + g; omega
    | ⟨1, _⟩ => rfl
    | ⟨2, _⟩ => show tc + j.val = 0 + (tc + j.val); omega
  · rw [pay3_apply, svM_load]
    congr 1
    funext x; apply Fin.ext
    match x with
    | ⟨0, _⟩ => show k0_off4 k 0 + 1 * g = g; rw [k0_off4_eq]; show 0 + 1 * g = g; omega
    | ⟨1, _⟩ => show k0_off4 k 1 + 1 * (tc + j.val) = _; rw [k0_off4_eq]; show 512 * k.val + 1 * (tc + j.val) = 512 * s.val + (tc + j.val); omega

include hs in
theorem zv_idx (g : Fin 20) (n : Fin 512) : View.readAt (Elt Ideal) zvM.view (Rect.unit (s := S20x17920) (k0_off5 k) S20x512.size (k0_off5_inb k)).toLoadRect f9 (ix2 g n)
    = (f9 : S20x17920.Idx → BitVec 8) (ix2 g ⟨512 * s.val + n.val, by omega⟩) := by
  rw [zvM_load]
  congr 1
  funext x; apply Fin.ext
  match x with
  | ⟨0, _⟩ => show k0_off5 k 0 + 1 * g.val = g.val; rw [k0_off5_eq]; show 0 + 1 * g.val = g.val; omega
  | ⟨1, _⟩ => show k0_off5 k 1 + 1 * n.val = _; rw [k0_off5_eq]; show 512 * k.val + 1 * n.val = 512 * s.val + n.val; omega

include hs in
/-- A load of one row of zero points: of the low nibbles below group 20, of the high ones from there. -/
theorem zl_apply (g tc : ℕ) (h : ∀ a, (![g, 0, tc] : Fin 3 → ℕ) a + S1x2x256.size a ≤ S40x2x512.size a) (j : Fin 256)
    (hg : g < 40) (ht : tc + j.val < 512) :
    zbM.view.readCov (Val := Elt Ideal) (tripRun.sl.H11_2 c f9 k) (Rect.unit (s := S40x2x512) ![g, 0, tc] S1x2x256.size h).toLoadRect (ix3 0 0 j)
      = nib ((f9 : S20x17920.Idx → BitVec 8) (ix2 ⟨g % 20, Nat.mod_lt _ (by decide)⟩ ⟨512 * s.val + (tc + j.val), by omega⟩)) (g / 20) := by
  rw [zbM_cov, row_idx g tc h j hg ht]
  unfold tripRun.sl.H11_2 tripRun.sl.H11_1
  by_cases h20 : g < 20
  · refine (View.read_writes_cons_unit_of_not_mem zbM.view _ _ _ _ _ rfl 0 (Or.inl (show g < 20 from h20))).trans ?_
    refine (View.read_writes_cons_unit_of_mem zbM.view _ _ _ _ _ (ix3 ⟨g, h20⟩ 0 ⟨tc + j.val, ht⟩ : S20x2x512.Idx) rfl ?_).trans ?_
    · intro x
      match x with
      | ⟨0, _⟩ => show g = 0 + g; omega
      | ⟨1, _⟩ => rfl
      | ⟨2, _⟩ => show tc + j.val = 0 + (tc + j.val); omega
    · rw [pay5_apply, zv_idx c f9 k s hs]
      rw [Nat.div_eq_of_lt h20]
      congr 2
      exact congrArg (fun q => ix2 q _) (Fin.ext (Nat.mod_eq_of_lt h20).symm)
  · refine (View.read_writes_cons_unit_of_mem zbM.view _ _ _ _ _ (ix3 ⟨g - 20, by omega⟩ 0 ⟨tc + j.val, ht⟩ : S20x2x512.Idx) rfl ?_).trans ?_
    · intro x
      match x with
      | ⟨0, _⟩ => show g = 20 + (g - 20); omega
      | ⟨1, _⟩ => rfl
      | ⟨2, _⟩ => show tc + j.val = 0 + (tc + j.val); omega
    · refine (pay9_apply _ ⟨g - 20, by omega⟩ ⟨tc + j.val, ht⟩).trans ?_
      rw [zv_idx c f9 k s hs, show g / 20 = 1 by omega]
      congr 2
      exact congrArg (fun q => ix2 q _) (Fin.ext (show g - 20 = g % 20 by omega))

end Loads

end Cert.KernelIdeal.Val

end
-- ==== Proof.KernelIdealLoads.lean ====
/-
  What the loads of `KernelIdeal`'s main loop read: the gathered activations, the packed weights, the scales and the zero
  points, each at its place in the operand.
-/
module

public import proofs.«01_k».proof.Proof.KernelIdealSteps
public import Idealize.ShloMosaic.Lib.Pointwise
public import Idealize.ShloMosaic.Lib.ValueLayout

@[expose] public section

noncomputable section

namespace Cert.KernelIdeal.Val

open Cert.KernelIdeal Cert.KernelIdeal.Gen
open Cert.KernelIdeal.Hand hiding ix1 ix2
open Idealize.ShloMosaic
open Idealize.ShloMosaic.TcCoe

variable {F : FTy → Type} [FloatOps F]

section Loads
variable (c : Dev nD) (XQ : Bf (F := F) c qM) (f6 : Bf (F := F) c xpM) (f8 : Bf (F := F) c svM) (f9 : Bf (F := F) c zvM)
  (k : Fin k0_t2_loop.trips)

theorem xl_apply (o : ℕ) (h) (b : Fin 8) (r : Fin 256) (ho : o + r.val < 5120) :
    xl c f6 o h (ix2 b r) = (f6 : S8x5120.Idx → Elt F .bf16) (ix2 b ⟨o + r.val, ho⟩) := by
  unfold xl
  rw [View.readAt_apply]
  show (f6 : S8x5120.Idx → Elt F .bf16) _ = _
  congr 1
  funext a; apply Fin.ext
  match a with
  | ⟨0, _⟩ => show 0 + 1 * b.val = b.val; omega
  | ⟨1, _⟩ => show o + 1 * r.val = o + r.val; omega

theorem rslot_emb (s : Fin 35) (r : Fin 2560) (j : Fin 512) : (rslot s).view.emb (ix2 r j) = (ix3 s r j : S35x2560x512.Idx) := by
  show (Rect.unit (s := S35x2560x512) (slotOff s) S1x2560x512.size (slotOff_inb s)).emb (Shape.reshapeEquiv _ (ix2 r j)) = _
  rw [Shape.reshapeEquiv_eq_of_rowMajor (y := (ix3 0 r j : S1x2560x512.Idx)) _ (by
    rw [Shape.rowMajor_val_three, Shape.rowMajor_val_two]
    show ((0 * 2560 + r.val) * 512 + j.val) = r.val * 512 + j.val
    omega)]
  funext a; apply Fin.ext
  match a with
  | ⟨0, _⟩ => show s.val + 1 * 0 = s.val; omega
  | ⟨1, _⟩ => show 0 + 1 * r.val = r.val; omega
  | ⟨2, _⟩ => show 0 + 1 * j.val = j.val; omega

theorem blkQ_emb (s : Fin 35) (r : Fin 2560) (j : Fin 512) :
    (blkQ s).view.emb (ix2 r j) = (ix2 r ⟨512 * s.val + j.val, by omega⟩ : S2560x17920.Idx) := by
  show (Rect.unit (s := S2560x17920) (colOff s) S2560x512.size (colOff_inb s)).emb (ix2 r j) = _
  funext a; apply Fin.ext
  match a with
  | ⟨0, _⟩ => show 0 + 1 * r.val = r.val; omega
  | ⟨1, _⟩ => show 512 * s.val + 1 * j.val = 512 * s.val + j.val; omega

theorem rslot_read (s : Fin 35) (f : Bf (F := F) c bufM) (x : S2560x512.Idx) :
    (rslot s).view.read (Elt F) f x = (f : S35x2560x512.Idx → Elt F .i8) ((rslot s).view.emb x) := rfl

theorem blkQ_read (s : Fin 35) (x : S2560x512.Idx) :
    (blkQ s).view.read (Elt F) XQ x = (XQ : S2560x17920.Idx → Elt F .i8) ((blkQ s).view.emb x) := rfl

theorem bufQ_at (s : Fin 35) (i : S35x2560x512.Idx) (h : i 0 = s) :
    (bufQ c XQ : S35x2560x512.Idx → Elt F .i8) i
      = ((rslot s).view.writes (Elt F) (rslot s).view.junk [⟨Rect.whole S2560x512, payload c XQ s⟩] : S35x2560x512.Idx → Elt F .i8) i := by
  subst h; rfl

theorem bufQ_apply (s : Fin 35) (r : Fin 2560) (j : Fin 512) :
    (bufQ c XQ : S35x2560x512.Idx → Elt F .i8) (ix3 s r j) = (XQ : S2560x17920.Idx → Elt F .i8) (ix2 r ⟨512 * s.val + j.val, by omega⟩) := by
  refine (bufQ_at c XQ s (ix3 s r j) rfl).trans ((congrArg _ (rslot_emb s r j).symm).trans ((rslot_read c s _ (ix2 r j)).symm.trans ?_))
  refine (congrFun (View.read_writes_whole (rslot s).view _ (payload c XQ s)) (ix2 r j)).trans ?_
  exact (blkQ_read c XQ s (ix2 r j)).trans (congrArg (XQ : S2560x17920.Idx → Elt F .i8) (blkQ_emb s r j))

theorem bufM_load (r : LoadRect S35x2560x512) (f : Bf (F := F) c bufM) (x : r.shape.Idx) :
    View.readAt (Elt F) bufM.view r f x = (f : S35x2560x512.Idx → Elt F .i8) (r.idx x) := rfl

/-- A load of 64 rows and 256 columns of packed weights. -/
theorem ql_apply (off : Fin 3 → ℕ) (g tc n : ℕ) (h : ∀ a, off a + S1x64x256.size a ≤ S35x2560x512.size a)
    (s : Fin 35) (e : off = ![s.val, 64 * g, tc]) (a : Fin 64) (j : Fin 256) (hg : 64 * g + a.val < 2560) (ht : tc + j.val < 512) :
    View.readAt (Elt F) bufM.view (Rect.unit (s := S35x2560x512) off S1x64x256.size h).toLoadRect (bufQ c XQ) (ix3 0 a j)
      = (XQ : S2560x17920.Idx → Elt F .i8) (ix2 ⟨64 * g + a.val, hg⟩ ⟨512 * s.val + (tc + j.val), by omega⟩) := by
  subst e
  rw [bufM_load, show (Rect.unit (s := S35x2560x512) ![s.val, 64 * g, tc] S1x64x256.size h).toLoadRect.idx (ix3 0 a j)
      = (ix3 s ⟨64 * g + a.val, hg⟩ ⟨tc + j.val, ht⟩ : S35x2560x512.Idx) from ?_]
  · exact bufQ_apply c XQ s ⟨64 * g + a.val, hg⟩ ⟨tc + j.val, ht⟩
  · funext x; apply Fin.ext
    match x with
    | ⟨0, _⟩ => show s.val + 1 * 0 = s.val; omega
    | ⟨1, _⟩ => show 64 * g + 1 * a.val = 64 * g + a.val; omega
    | ⟨2, _⟩ => show tc + 1 * j.val = tc + j.val; omega

end Loads

end Cert.KernelIdeal.Val

end
-- ==== Proof.KernelIdealTile.lean ====
/-
  A trip of `KernelIdeal`'s main loop over the extended reals: each column of its two tiles is the sum, over the 5120 input
  features, of the gathered activation times the feature's weight.
-/
module

public import proofs.«01_k».proof.Proof.KernelIdealRows
public import proofs.«01_k».proof.Proof.KernelIdealLoads

@[expose] public section

noncomputable section

namespace Cert.KernelIdeal.Val

open Cert.KernelIdeal Cert.KernelIdeal.Gen
open Cert.KernelIdeal.Hand hiding ix1 ix2
open Idealize.ShloMosaic
open Idealize.ShloMosaic.TcCoe

/-- The activations along the permutation's columns: column `m` of row `b` is `x[b, perm m]` (a word past the end read as the
    last column). -/
def permuted (x : (⟨3, ![8, 1, 5120]⟩ : Shape).Idx → EReal) (p : (⟨1, ![5120]⟩ : Shape).Idx → BitVec 32) : S8x5120.Idx → EReal :=
  fun i => x (ix3 (i 0) 0 ⟨min (p (ix1 (i 1))).toNat 5119, by omega⟩)

/-- Activation `m` of row `b`. -/
def act (x : S8x5120.Idx → EReal) (b : Fin 8) (m : ℕ) : EReal := if h : m < 5120 then x (ix2 b ⟨m, h⟩) else 0
/-- The weight of input feature `m` for output `n`: code less zero point, times scale. -/
def wgt (Q : S2560x17920.Idx → BitVec 8) (S : S40x17920.Idx → EReal) (Z : S20x17920.Idx → BitVec 8) (n : Fin 17920) (m : ℕ) : EReal :=
  if h : m < 5120 then
    (nib (Q (ix2 ⟨m / 2, by omega⟩ n)) (m % 2) - nib (Z (ix2 ⟨m / 128 % 20, Nat.mod_lt _ (by decide)⟩ n)) (m / 128 / 20)) * S (ix2 ⟨m / 128, by omega⟩ n)
  else 0

section Trip
variable (c : Dev nD) (XQ : Bf (F := Ideal) c qM) (f6 : Bf (F := Ideal) c xpM) (f8 : Bf (F := Ideal) c svM) (f9 : Bf (F := Ideal) c zvM)
  (k : Fin k0_t2_loop.trips)

/-- Column `j` of the tile at `tc`, in the result. -/
abbrev col (tc : ℕ) (htc : tc ≤ 256) (j : Fin 256) : Fin 17920 := ⟨512 * (Hand.ix2 k).val + (tc + j.val), by have := (Hand.ix2 k).isLt; omega⟩

theorem deq_load (off : Fin 3 → ℕ) (g tc : ℕ) (htc : tc ≤ 256) (hg : g < 40) (hq) (hz) (e : off = ![(Hand.ix2 k).val, 64 * g, tc]) (a : Fin 128) (j : Fin 256) :
    deq (F := Ideal) (View.readAt (Elt Ideal) bufM.view (Rect.unit (s := S35x2560x512) off S1x64x256.size hq).toLoadRect (bufQ c XQ))
      (zbM.view.readCov (Val := Elt Ideal) (tripRun.sl.H11_2 c f9 k) (Rect.unit (s := S40x2x512) ![g, 0, tc] S1x2x256.size hz).toLoadRect)
      (sbM.view.readCov (Val := Elt Ideal) (tripRun.sl.H10_1 c f8 k) (Rect.unit (s := S40x2x512) ![g, 0, tc] S1x2x256.size hz).toLoadRect) (ix2 a j)
      = wgt XQ f8 f9 (col k tc htc j) (128 * g + a.val) := by
  have ha := a.isLt
  refine (deq_apply _ _ _ a j).trans ?_
  rw [ql_apply c XQ off g tc 0 hq (Hand.ix2 k) e ⟨a.val / 2, by omega⟩ j (show 64 * g + a.val / 2 < 2560 by omega) (by omega),
    zl_apply c f9 k (Hand.ix2 k) rfl g tc hz j hg (by omega), sl_apply c f8 k (Hand.ix2 k) rfl g tc hz j hg (by omega)]
  unfold wgt
  rw [dif_pos (show 128 * g + a.val < 5120 by omega)]
  have e1 : (128 * g + a.val) / 128 = g := by omega
  have e2 : (128 * g + a.val) / 2 = 64 * g + a.val / 2 := by omega
  have e3 : (128 * g + a.val) % 2 = a.val % 2 := by omega
  simp only [e1, e2, e3]

/-- One step of the accumulation: the sum grows by 256 features. -/
theorem trip_step (n tc : ℕ) (htc : tc ≤ 256) (hn : n < 20) (acc : FVec Ideal S8x256 .f32) (off0 off1 : Fin 3 → ℕ) (hx hq0 hz0 hq1 hz1)
    (e0 : off0 = ![(Hand.ix2 k).val, 64 * (2 * n), tc]) (e1 : off1 = ![(Hand.ix2 k).val, 64 * (2 * n + 1), tc]) (b : Fin 8) (j : Fin 256)
    (hacc : acc (ix2 b j) = ∑ m ∈ Finset.range (256 * n), act f6 b m * wgt XQ f8 f9 (col k tc htc j) m) :
    kstep (F := Ideal) acc (xl c f6 (256 * n) hx)
      (View.readAt (Elt Ideal) bufM.view (Rect.unit (s := S35x2560x512) off0 S1x64x256.size hq0).toLoadRect (bufQ c XQ))
      (zbM.view.readCov (Val := Elt Ideal) (tripRun.sl.H11_2 c f9 k) (Rect.unit (s := S40x2x512) ![2 * n, 0, tc] S1x2x256.size hz0).toLoadRect)
      (sbM.view.readCov (Val := Elt Ideal) (tripRun.sl.H10_1 c f8 k) (Rect.unit (s := S40x2x512) ![2 * n, 0, tc] S1x2x256.size hz0).toLoadRect)
      (View.readAt (Elt Ideal) bufM.view (Rect.unit (s := S35x2560x512) off1 S1x64x256.size hq1).toLoadRect (bufQ c XQ))
      (zbM.view.readCov (Val := Elt Ideal) (tripRun.sl.H11_2 c f9 k) (Rect.unit (s := S40x2x512) ![2 * n + 1, 0, tc] S1x2x256.size hz1).toLoadRect)
      (sbM.view.readCov (Val := Elt Ideal) (tripRun.sl.H10_1 c f8 k) (Rect.unit (s := S40x2x512) ![2 * n + 1, 0, tc] S1x2x256.size hz1).toLoadRect) (ix2 b j)
      = ∑ m ∈ Finset.range (256 * (n + 1)), act f6 b m * wgt XQ f8 f9 (col k tc htc j) m := by
  refine kstep_sum (act f6 b) (wgt XQ f8 f9 (col k tc htc j)) n _ _ _ _ _ _ _ _ b j hacc (fun r => ?_)
    (fun a => deq_load c XQ f8 f9 k off0 (2 * n) tc htc (by omega) hq0 hz0 e0 a j) (fun a => deq_load c XQ f8 f9 k off1 (2 * n + 1) tc htc (by omega) hq1 hz1 e1 a j)
  have hr := r.isLt
  rw [xl_apply c f6 (256 * n) hx b r (by omega)]
  unfold act
  rw [dif_pos (show 256 * n + r.val < 5120 by omega)]

variable (b : Fin 8) (j : Fin 256)

theorem sum0_0 : tripRun.sl.v9832 c XQ f6 f8 f9 k (ix2 b j) = ∑ m ∈ Finset.range (256 * 1), act f6 b m * wgt XQ f8 f9 (col k 0 (by decide) j) m :=
  (congrFun (step0_0 c XQ f6 f8 f9 k) _).trans (trip_step c XQ f6 f8 f9 k 0 0 (by decide) (by decide) _ (k0_off9 k) (k0_off10 k) _ _ _ _ _ (k0_off9_eq k) (k0_off10_eq k) b j (by rw [accZero_apply]; rfl))
theorem sum0_1 : tripRun.sl.v9884 c XQ f6 f8 f9 k (ix2 b j) = ∑ m ∈ Finset.range (256 * 2), act f6 b m * wgt XQ f8 f9 (col k 0 (by decide) j) m :=
  (congrFun (step0_1 c XQ f6 f8 f9 k) _).trans (trip_step c XQ f6 f8 f9 k 1 0 (by decide) (by decide) _ (k0_off11 k) (k0_off12 k) _ _ _ _ _ (k0_off11_eq k) (k0_off12_eq k) b j (sum0_0 c XQ f6 f8 f9 k b j))
theorem sum0_2 : tripRun.sl.v9936 c XQ f6 f8 f9 k (ix2 b j) = ∑ m ∈ Finset.range (256 * 3), act f6 b m * wgt XQ f8 f9 (col k 0 (by decide) j) m :=
  (congrFun (step0_2 c XQ f6 f8 f9 k) _).trans (trip_step c XQ f6 f8 f9 k 2 0 (by decide) (by decide) _ (k0_off13 k) (k0_off14 k) _ _ _ _ _ (k0_off13_eq k) (k0_off14_eq k) b j (sum0_1 c XQ f6 f8 f9 k b j))
theorem sum0_3 : tripRun.sl.v9988 c XQ f6 f8 f9 k (ix2 b j) = ∑ m ∈ Finset.range (256 * 4), act f6 b m * wgt XQ f8 f9 (col k 0 (by decide) j) m :=
  (congrFun (step0_3 c XQ f6 f8 f9 k) _).trans (trip_step c XQ f6 f8 f9 k 3 0 (by decide) (by decide) _ (k0_off15 k) (k0_off16 k) _ _ _ _ _ (k0_off15_eq k) (k0_off16_eq k) b j (sum0_2 c XQ f6 f8 f9 k b j))
theorem sum0_4 : tripRun.sl.v10040 c XQ f6 f8 f9 k (ix2 b j) = ∑ m ∈ Finset.range (256 * 5), act f6 b m * wgt XQ f8 f9 (col k 0 (by decide) j) m :=
  (congrFun (step0_4 c XQ f6 f8 f9 k) _).trans (trip_step c XQ f6 f8 f9 k 4 0 (by decide) (by decide) _ (k0_off17 k) (k0_off18 k) _ _ _ _ _ (k0_off17_eq k) (k0_off18_eq k) b j (sum0_3 c XQ f6 f8 f9 k b j))
theorem sum0_5 : tripRun.sl.v10092 c XQ f6 f8 f9 k (ix2 b j) = ∑ m ∈ Finset.range (256 * 6), act f6 b m * wgt XQ f8 f9 (col k 0 (by decide) j) m :=
  (congrFun (step0_5 c XQ f6 f8 f9 k) _).trans (trip_step c XQ f6 f8 f9 k 5 0 (by decide) (by decide) _ (k0_off19 k) (k0_off20 k) _ _ _ _ _ (k0_off19_eq k) (k0_off20_eq k) b j (sum0_4 c XQ f6 f8 f9 k b j))
theorem sum0_6 : tripRun.sl.v10144 c XQ f6 f8 f9 k (ix2 b j) = ∑ m ∈ Finset.range (256 * 7), act f6 b m * wgt XQ f8 f9 (col k 0 (by decide) j) m :=
  (congrFun (step0_6 c XQ f6 f8 f9 k) _).trans (trip_step c XQ f6 f8 f9 k 6 0 (by decide) (by decide) _ (k0_off21 k) (k0_off22 k) _ _ _ _ _ (k0_off21_eq k) (k0_off22_eq k) b j (sum0_5 c XQ f6 f8 f9 k b j))
theorem sum0_7 : tripRun.sl.v10196 c XQ f6 f8 f9 k (ix2 b j) = ∑ m ∈ Finset.range (256 * 8), act f6 b m * wgt XQ f8 f9 (col k 0 (by decide) j) m :=
  (congrFun (step0_7 c XQ f6 f8 f9 k) _).trans (trip_step c XQ f6 f8 f9 k 7 0 (by decide) (by decide) _ (k0_off23 k) (k0_off24 k) _ _ _ _ _ (k0_off23_eq k) (k0_off24_eq k) b j (sum0_6 c XQ f6 f8 f9 k b j))
theorem sum0_8 : tripRun.sl.v10248 c XQ f6 f8 f9 k (ix2 b j) = ∑ m ∈ Finset.range (256 * 9), act f6 b m * wgt XQ f8 f9 (col k 0 (by decide) j) m :=
  (congrFun (step0_8 c XQ f6 f8 f9 k) _).trans (trip_step c XQ f6 f8 f9 k 8 0 (by decide) (by decide) _ (k0_off25 k) (k0_off26 k) _ _ _ _ _ (k0_off25_eq k) (k0_off26_eq k) b j (sum0_7 c XQ f6 f8 f9 k b j))
theorem sum0_9 : tripRun.sl.v10300 c XQ f6 f8 f9 k (ix2 b j) = ∑ m ∈ Finset.range (256 * 10), act f6 b m * wgt XQ f8 f9 (col k 0 (by decide) j) m :=
  (congrFun (step0_9 c XQ f6 f8 f9 k) _).trans (trip_step c XQ f6 f8 f9 k 9 0 (by decide) (by decide) _ (k0_off27 k) (k0_off28 k) _ _ _ _ _ (k0_off27_eq k) (k0_off28_eq k) b j (sum0_8 c XQ f6 f8 f9 k b j))
theorem sum0_10 : tripRun.sl.v10352 c XQ f6 f8 f9 k (ix2 b j) = ∑ m ∈ Finset.range (256 * 11), act f6 b m * wgt XQ f8 f9 (col k 0 (by decide) j) m :=
  (congrFun (step0_10 c XQ f6 f8 f9 k) _).trans (trip_step c XQ f6 f8 f9 k 10 0 (by decide) (by decide) _ (k0_off29 k) (k0_off30 k) _ _ _ _ _ (k0_off29_eq k) (k0_off30_eq k) b j (sum0_9 c XQ f6 f8 f9 k b j))
theorem sum0_11 : tripRun.sl.v10404 c XQ f6 f8 f9 k (ix2 b j) = ∑ m ∈ Finset.range (256 * 12), act f6 b m * wgt XQ f8 f9 (col k 0 (by decide) j) m :=
  (congrFun (step0_11 c XQ f6 f8 f9 k) _).trans (trip_step c XQ f6 f8 f9 k 11 0 (by decide) (by decide) _ (k0_off31 k) (k0_off32 k) _ _ _ _ _ (k0_off31_eq k) (k0_off32_eq k) b j (sum0_10 c XQ f6 f8 f9 k b j))
theorem sum0_12 : tripRun.sl.v10456 c XQ f6 f8 f9 k (ix2 b j) = ∑ m ∈ Finset.range (256 * 13), act f6 b m * wgt XQ f8 f9 (col k 0 (by decide) j) m :=
  (congrFun (step0_12 c XQ f6 f8 f9 k) _).trans (trip_step c XQ f6 f8 f9 k 12 0 (by decide) (by decide) _ (k0_off33 k) (k0_off34 k) _ _ _ _ _ (k0_off33_eq k) (k0_off34_eq k) b j (sum0_11 c XQ f6 f8 f9 k b j))
theorem sum0_13 : tripRun.sl.v10508 c XQ f6 f8 f9 k (ix2 b j) = ∑ m ∈ Finset.range (256 * 14), act f6 b m * wgt XQ f8 f9 (col k 0 (by decide) j) m :=
  (congrFun (step0_13 c XQ f6 f8 f9 k) _).trans (trip_step c XQ f6 f8 f9 k 13 0 (by decide) (by decide) _ (k0_off35 k) (k0_off36 k) _ _ _ _ _ (k0_off35_eq k) (k0_off36_eq k) b j (sum0_12 c XQ f6 f8 f9 k b j))
theorem sum0_14 : tripRun.sl.v10560 c XQ f6 f8 f9 k (ix2 b j) = ∑ m ∈ Finset.range (256 * 15), act f6 b m * wgt XQ f8 f9 (col k 0 (by decide) j) m :=
  (congrFun (step0_14 c XQ f6 f8 f9 k) _).trans (trip_step c XQ f6 f8 f9 k 14 0 (by decide) (by decide) _ (k0_off37 k) (k0_off38 k) _ _ _ _ _ (k0_off37_eq k) (k0_off38_eq k) b j (sum0_13 c XQ f6 f8 f9 k b j))
theorem sum0_15 : tripRun.sl.v10612 c XQ f6 f8 f9 k (ix2 b j) = ∑ m ∈ Finset.range (256 * 16), act f6 b m * wgt XQ f8 f9 (col k 0 (by decide) j) m :=
  (congrFun (step0_15 c XQ f6 f8 f9 k) _).trans (trip_step c XQ f6 f8 f9 k 15 0 (by decide) (by decide) _ (k0_off39 k) (k0_off40 k) _ _ _ _ _ (k0_off39_eq k) (k0_off40_eq k) b j (sum0_14 c XQ f6 f8 f9 k b j))
theorem sum0_16 : tripRun.sl.v10664 c XQ f6 f8 f9 k (ix2 b j) = ∑ m ∈ Finset.range (256 * 17), act f6 b m * wgt XQ f8 f9 (col k 0 (by decide) j) m :=
  (congrFun (step0_16 c XQ f6 f8 f9 k) _).trans (trip_step c XQ f6 f8 f9 k 16 0 (by decide) (by decide) _ (k0_off41 k) (k0_off42 k) _ _ _ _ _ (k0_off41_eq k) (k0_off42_eq k) b j (sum0_15 c XQ f6 f8 f9 k b j))
theorem sum0_17 : tripRun.sl.v10716 c XQ f6 f8 f9 k (ix2 b j) = ∑ m ∈ Finset.range (256 * 18), act f6 b m * wgt XQ f8 f9 (col k 0 (by decide) j) m :=
  (congrFun (step0_17 c XQ f6 f8 f9 k) _).trans (trip_step c XQ f6 f8 f9 k 17 0 (by decide) (by decide) _ (k0_off43 k) (k0_off44 k) _ _ _ _ _ (k0_off43_eq k) (k0_off44_eq k) b j (sum0_16 c XQ f6 f8 f9 k b j))
theorem sum0_18 : tripRun.sl.v10768 c XQ f6 f8 f9 k (ix2 b j) = ∑ m ∈ Finset.range (256 * 19), act f6 b m * wgt XQ f8 f9 (col k 0 (by decide) j) m :=
  (congrFun (step0_18 c XQ f6 f8 f9 k) _).trans (trip_step c XQ f6 f8 f9 k 18 0 (by decide) (by decide) _ (k0_off45 k) (k0_off46 k) _ _ _ _ _ (k0_off45_eq k) (k0_off46_eq k) b j (sum0_17 c XQ f6 f8 f9 k b j))
theorem tile0_sum (arg0 : Memref sig .tc .vmem S8x5120 .bf16) (harg0 : arg0.IsWhole)
    (arg1 : Memref sig .tc .vmem S40x128 .i32) (harg1 : arg1.IsWhole)
    (arg5 : Memref sig .tc .vmem S8x17920 .bf16) (harg5 : arg5.IsWhole) :
    (tripRun c XQ f6 f8 f9 arg0 harg0 arg1 harg1 arg5 harg5 k).1.1 (ix2 b j) = ∑ m ∈ Finset.range (256 * 20), act f6 b m * wgt XQ f8 f9 (col k 0 (by decide) j) m :=
  (congrFun (last0 c XQ f6 f8 f9 k arg0 harg0 arg1 harg1 arg5 harg5) _).trans (trip_step c XQ f6 f8 f9 k 19 0 (by decide) (by decide) _ (k0_off47 k) (k0_off48 k) _ _ _ _ _ (k0_off47_eq k) (k0_off48_eq k) b j (sum0_18 c XQ f6 f8 f9 k b j))

theorem sum1_0 : tripRun.sl.v10878 c XQ f6 f8 f9 k (ix2 b j) = ∑ m ∈ Finset.range (256 * 1), act f6 b m * wgt XQ f8 f9 (col k 256 (by decide) j) m :=
  (congrFun (step1_0 c XQ f6 f8 f9 k) _).trans (trip_step c XQ f6 f8 f9 k 0 256 (by decide) (by decide) _ (k0_off50 k) (k0_off51 k) _ _ _ _ _ (k0_off50_eq k) (k0_off51_eq k) b j (by rw [accZero_apply]; rfl))
theorem sum1_1 : tripRun.sl.v10930 c XQ f6 f8 f9 k (ix2 b j) = ∑ m ∈ Finset.range (256 * 2), act f6 b m * wgt XQ f8 f9 (col k 256 (by decide) j) m :=
  (congrFun (step1_1 c XQ f6 f8 f9 k) _).trans (trip_step c XQ f6 f8 f9 k 1 256 (by decide) (by decide) _ (k0_off52 k) (k0_off53 k) _ _ _ _ _ (k0_off52_eq k) (k0_off53_eq k) b j (sum1_0 c XQ f6 f8 f9 k b j))
theorem sum1_2 : tripRun.sl.v10982 c XQ f6 f8 f9 k (ix2 b j) = ∑ m ∈ Finset.range (256 * 3), act f6 b m * wgt XQ f8 f9 (col k 256 (by decide) j) m :=
  (congrFun (step1_2 c XQ f6 f8 f9 k) _).trans (trip_step c XQ f6 f8 f9 k 2 256 (by decide) (by decide) _ (k0_off54 k) (k0_off55 k) _ _ _ _ _ (k0_off54_eq k) (k0_off55_eq k) b j (sum1_1 c XQ f6 f8 f9 k b j))
theorem sum1_3 : tripRun.sl.v11034 c XQ f6 f8 f9 k (ix2 b j) = ∑ m ∈ Finset.range (256 * 4), act f6 b m * wgt XQ f8 f9 (col k 256 (by decide) j) m :=
  (congrFun (step1_3 c XQ f6 f8 f9 k) _).trans (trip_step c XQ f6 f8 f9 k 3 256 (by decide) (by decide) _ (k0_off56 k) (k0_off57 k) _ _ _ _ _ (k0_off56_eq k) (k0_off57_eq k) b j (sum1_2 c XQ f6 f8 f9 k b j))
theorem sum1_4 : tripRun.sl.v11086 c XQ f6 f8 f9 k (ix2 b j) = ∑ m ∈ Finset.range (256 * 5), act f6 b m * wgt XQ f8 f9 (col k 256 (by decide) j) m :=
  (congrFun (step1_4 c XQ f6 f8 f9 k) _).trans (trip_step c XQ f6 f8 f9 k 4 256 (by decide) (by decide) _ (k0_off58 k) (k0_off59 k) _ _ _ _ _ (k0_off58_eq k) (k0_off59_eq k) b j (sum1_3 c XQ f6 f8 f9 k b j))
theorem sum1_5 : tripRun.sl.v11138 c XQ f6 f8 f9 k (ix2 b j) = ∑ m ∈ Finset.range (256 * 6), act f6 b m * wgt XQ f8 f9 (col k 256 (by decide) j) m :=
  (congrFun (step1_5 c XQ f6 f8 f9 k) _).trans (trip_step c XQ f6 f8 f9 k 5 256 (by decide) (by decide) _ (k0_off60 k) (k0_off61 k) _ _ _ _ _ (k0_off60_eq k) (k0_off61_eq k) b j (sum1_4 c XQ f6 f8 f9 k b j))
theorem sum1_6 : tripRun.sl.v11190 c XQ f6 f8 f9 k (ix2 b j) = ∑ m ∈ Finset.range (256 * 7), act f6 b m * wgt XQ f8 f9 (col k 256 (by decide) j) m :=
  (congrFun (step1_6 c XQ f6 f8 f9 k) _).trans (trip_step c XQ f6 f8 f9 k 6 256 (by decide) (by decide) _ (k0_off62 k) (k0_off63 k) _ _ _ _ _ (k0_off62_eq k) (k0_off63_eq k) b j (sum1_5 c XQ f6 f8 f9 k b j))
theorem sum1_7 : tripRun.sl.v11242 c XQ f6 f8 f9 k (ix2 b j) = ∑ m ∈ Finset.range (256 * 8), act f6 b m * wgt XQ f8 f9 (col k 256 (by decide) j) m :=
  (congrFun (step1_7 c XQ f6 f8 f9 k) _).trans (trip_step c XQ f6 f8 f9 k 7 256 (by decide) (by decide) _ (k0_off64 k) (k0_off65 k) _ _ _ _ _ (k0_off64_eq k) (k0_off65_eq k) b j (sum1_6 c XQ f6 f8 f9 k b j))
theorem sum1_8 : tripRun.sl.v11294 c XQ f6 f8 f9 k (ix2 b j) = ∑ m ∈ Finset.range (256 * 9), act f6 b m * wgt XQ f8 f9 (col k 256 (by decide) j) m :=
  (congrFun (step1_8 c XQ f6 f8 f9 k) _).trans (trip_step c XQ f6 f8 f9 k 8 256 (by decide) (by decide) _ (k0_off66 k) (k0_off67 k) _ _ _ _ _ (k0_off66_eq k) (k0_off67_eq k) b j (sum1_7 c XQ f6 f8 f9 k b j))
theorem sum1_9 : tripRun.sl.v11346 c XQ f6 f8 f9 k (ix2 b j) = ∑ m ∈ Finset.range (256 * 10), act f6 b m * wgt XQ f8 f9 (col k 256 (by decide) j) m :=
  (congrFun (step1_9 c XQ f6 f8 f9 k) _).trans (trip_step c XQ f6 f8 f9 k 9 256 (by decide) (by decide) _ (k0_off68 k) (k0_off69 k) _ _ _ _ _ (k0_off68_eq k) (k0_off69_eq k) b j (sum1_8 c XQ f6 f8 f9 k b j))
theorem sum1_10 : tripRun.sl.v11398 c XQ f6 f8 f9 k (ix2 b j) = ∑ m ∈ Finset.range (256 * 11), act f6 b m * wgt XQ f8 f9 (col k 256 (by decide) j) m :=
  (congrFun (step1_10 c XQ f6 f8 f9 k) _).trans (trip_step c XQ f6 f8 f9 k 10 256 (by decide) (by decide) _ (k0_off70 k) (k0_off71 k) _ _ _ _ _ (k0_off70_eq k) (k0_off71_eq k) b j (sum1_9 c XQ f6 f8 f9 k b j))
theorem sum1_11 : tripRun.sl.v11450 c XQ f6 f8 f9 k (ix2 b j) = ∑ m ∈ Finset.range (256 * 12), act f6 b m * wgt XQ f8 f9 (col k 256 (by decide) j) m :=
  (congrFun (step1_11 c XQ f6 f8 f9 k) _).trans (trip_step c XQ f6 f8 f9 k 11 256 (by decide) (by decide) _ (k0_off72 k) (k0_off73 k) _ _ _ _ _ (k0_off72_eq k) (k0_off73_eq k) b j (sum1_10 c XQ f6 f8 f9 k b j))
theorem sum1_12 : tripRun.sl.v11502 c XQ f6 f8 f9 k (ix2 b j) = ∑ m ∈ Finset.range (256 * 13), act f6 b m * wgt XQ f8 f9 (col k 256 (by decide) j) m :=
  (congrFun (step1_12 c XQ f6 f8 f9 k) _).trans (trip_step c XQ f6 f8 f9 k 12 256 (by decide) (by decide) _ (k0_off74 k) (k0_off75 k) _ _ _ _ _ (k0_off74_eq k) (k0_off75_eq k) b j (sum1_11 c XQ f6 f8 f9 k b j))
theorem sum1_13 : tripRun.sl.v11554 c XQ f6 f8 f9 k (ix2 b j) = ∑ m ∈ Finset.range (256 * 14), act f6 b m * wgt XQ f8 f9 (col k 256 (by decide) j) m :=
  (congrFun (step1_13 c XQ f6 f8 f9 k) _).trans (trip_step c XQ f6 f8 f9 k 13 256 (by decide) (by decide) _ (k0_off76 k) (k0_off77 k) _ _ _ _ _ (k0_off76_eq k) (k0_off77_eq k) b j (sum1_12 c XQ f6 f8 f9 k b j))
theorem sum1_14 : tripRun.sl.v11606 c XQ f6 f8 f9 k (ix2 b j) = ∑ m ∈ Finset.range (256 * 15), act f6 b m * wgt XQ f8 f9 (col k 256 (by decide) j) m :=
  (congrFun (step1_14 c XQ f6 f8 f9 k) _).trans (trip_step c XQ f6 f8 f9 k 14 256 (by decide) (by decide) _ (k0_off78 k) (k0_off79 k) _ _ _ _ _ (k0_off78_eq k) (k0_off79_eq k) b j (sum1_13 c XQ f6 f8 f9 k b j))
theorem sum1_15 : tripRun.sl.v11658 c XQ f6 f8 f9 k (ix2 b j) = ∑ m ∈ Finset.range (256 * 16), act f6 b m * wgt XQ f8 f9 (col k 256 (by decide) j) m :=
  (congrFun (step1_15 c XQ f6 f8 f9 k) _).trans (trip_step c XQ f6 f8 f9 k 15 256 (by decide) (by decide) _ (k0_off80 k) (k0_off81 k) _ _ _ _ _ (k0_off80_eq k) (k0_off81_eq k) b j (sum1_14 c XQ f6 f8 f9 k b j))
theorem sum1_16 : tripRun.sl.v11710 c XQ f6 f8 f9 k (ix2 b j) = ∑ m ∈ Finset.range (256 * 17), act f6 b m * wgt XQ f8 f9 (col k 256 (by decide) j) m :=
  (congrFun (step1_16 c XQ f6 f8 f9 k) _).trans (trip_step c XQ f6 f8 f9 k 16 256 (by decide) (by decide) _ (k0_off82 k) (k0_off83 k) _ _ _ _ _ (k0_off82_eq k) (k0_off83_eq k) b j (sum1_15 c XQ f6 f8 f9 k b j))
theorem sum1_17 : tripRun.sl.v11762 c XQ f6 f8 f9 k (ix2 b j) = ∑ m ∈ Finset.range (256 * 18), act f6 b m * wgt XQ f8 f9 (col k 256 (by decide) j) m :=
  (congrFun (step1_17 c XQ f6 f8 f9 k) _).trans (trip_step c XQ f6 f8 f9 k 17 256 (by decide) (by decide) _ (k0_off84 k) (k0_off85 k) _ _ _ _ _ (k0_off84_eq k) (k0_off85_eq k) b j (sum1_16 c XQ f6 f8 f9 k b j))
theorem sum1_18 : tripRun.sl.v11814 c XQ f6 f8 f9 k (ix2 b j) = ∑ m ∈ Finset.range (256 * 19), act f6 b m * wgt XQ f8 f9 (col k 256 (by decide) j) m :=
  (congrFun (step1_18 c XQ f6 f8 f9 k) _).trans (trip_step c XQ f6 f8 f9 k 18 256 (by decide) (by decide) _ (k0_off86 k) (k0_off87 k) _ _ _ _ _ (k0_off86_eq k) (k0_off87_eq k) b j (sum1_17 c XQ f6 f8 f9 k b j))
theorem tile1_sum (arg0 : Memref sig .tc .vmem S8x5120 .bf16) (harg0 : arg0.IsWhole)
    (arg1 : Memref sig .tc .vmem S40x128 .i32) (harg1 : arg1.IsWhole)
    (arg5 : Memref sig .tc .vmem S8x17920 .bf16) (harg5 : arg5.IsWhole) :
    (tripRun c XQ f6 f8 f9 arg0 harg0 arg1 harg1 arg5 harg5 k).1.2 (ix2 b j) = ∑ m ∈ Finset.range (256 * 20), act f6 b m * wgt XQ f8 f9 (col k 256 (by decide) j) m :=
  (congrFun (last1 c XQ f6 f8 f9 k arg0 harg0 arg1 harg1 arg5 harg5) _).trans (trip_step c XQ f6 f8 f9 k 19 256 (by decide) (by decide) _ (k0_off88 k) (k0_off89 k) _ _ _ _ _ (k0_off88_eq k) (k0_off89_eq k) b j (sum1_18 c XQ f6 f8 f9 k b j))

end Trip

section Result
variable (c : Dev nD) (XQ : Bf (F := Ideal) c qM) (f6 : Bf (F := Ideal) c xpM) (f8 : Bf (F := Ideal) c svM) (f9 : Bf (F := Ideal) c zvM)
  (arg0 : Memref sig .tc .vmem S8x5120 .bf16) (harg0 : arg0.IsWhole)
  (arg1 : Memref sig .tc .vmem S40x128 .i32) (harg1 : arg1.IsWhole)
  (arg5 : Memref sig .tc .vmem S8x17920 .bf16) (harg5 : arg5.IsWhole)

/-- The result, element by element. -/
theorem resultY_apply (b : Fin 8) (n : Fin 17920) :
    resultY c XQ f6 f8 f9 arg0 harg0 arg1 harg1 arg5 harg5 (ix2 b n) = ∑ m ∈ Finset.range 5120, act f6 b m * wgt XQ f8 f9 n m := by
  have hn := n.isLt
  unfold resultY
  split
  · rename_i h
    have hm : n.val % 512 < 256 := h
    refine (congrArg _ (show tileIx b (n.val % 512) hm = ix2 b ⟨n.val % 512, hm⟩ from ?_)).trans
      ((tile0_sum c XQ f6 f8 f9 (chunkOf (ix2 b n)) b ⟨n.val % 512, hm⟩ arg0 harg0 arg1 harg1 arg5 harg5).trans ?_)
    · funext a; match a with
      | ⟨0, _⟩ => rfl
      | ⟨1, _⟩ => rfl
    · rw [show col (chunkOf (ix2 b n)) 0 (by decide) ⟨n.val % 512, hm⟩ = n from Fin.ext (by show 512 * (n.val / 512) + (0 + n.val % 512) = n.val; omega)]
  · rename_i h
    have hm : ¬ n.val % 512 < 256 := h
    refine (congrArg _ (show tileIx b (n.val % 512 - 256) (by omega) = ix2 b ⟨n.val % 512 - 256, by omega⟩ from ?_)).trans
      ((tile1_sum c XQ f6 f8 f9 (chunkOf (ix2 b n)) b ⟨n.val % 512 - 256, by omega⟩ arg0 harg0 arg1 harg1 arg5 harg5).trans ?_)
    · funext a; match a with
      | ⟨0, _⟩ => rfl
      | ⟨1, _⟩ => rfl
    · rw [show col (chunkOf (ix2 b n)) 256 (by decide) ⟨n.val % 512 - 256, by omega⟩ = n from
        Fin.ext (by show 512 * (n.val / 512) + (256 + (n.val % 512 - 256)) = n.val; omega)]

end Result

end Cert.KernelIdeal.Val

end
-- ==== Proof.KernelIdealGatherValue.lean ====
/-
  The gather of `KernelIdeal` over the extended reals: where every word of the permutation lies in 0 … 5119, the gathered
  buffer's column `m` is the activations' column `perm m`.
-/
module

public import proofs.«01_k».proof.Proof.KernelIdealGather
public import Idealize.ShloMosaic.Lib.Pointwise

@[expose] public section

noncomputable section

namespace Cert.KernelIdeal.Val

open Cert.KernelIdeal Cert.KernelIdeal.Gen
open Cert.KernelIdeal.Hand hiding ix1 ix2
open Idealize.ShloMosaic
open Idealize.ShloMosaic.TcCoe

/-! ### The words -/

/-- A word's lane, its tile of forty, and its tile within its half, as the body computes them. -/
def laneW (w : BitVec 32) : BitVec 32 :=
  if IntOp.cmpi .slt (IntOp.andi w 127#32) 0#32 = 1#1 then IntOp.addi (IntOp.andi w 127#32) 128#32 else IntOp.andi w 127#32
def tileW (w : BitVec 32) : BitVec 32 := IntOp.shrsi .vector w 7#32
def upperW (w : BitVec 32) : BitVec 1 := IntOp.cmpi .sge (tileW w) 20#32
def tile20W (w : BitVec 32) : BitVec 32 := if upperW w = 1#1 then IntOp.subi (tileW w) 20#32 else tileW w

theorem words : ∀ (t : Fin 40) (l : Fin 128), (laneW (BitVec.ofNat 32 (128 * t.val + l.val))).toNat = l.val
    ∧ (upperW (BitVec.ofNat 32 (128 * t.val + l.val)) = 1#1 ↔ 20 ≤ t.val)
    ∧ tile20W (BitVec.ofNat 32 (128 * t.val + l.val)) = BitVec.ofNat 32 (t.val % 20) := by decide +kernel

theorem words_of {w : BitVec 32} (h : w.toNat < 5120) : (laneW w).toNat = w.toNat % 128
    ∧ (upperW w = 1#1 ↔ 20 ≤ w.toNat / 128) ∧ tile20W w = BitVec.ofNat 32 (w.toNat / 128 % 20) := by
  have e := words ⟨w.toNat / 128, by omega⟩ ⟨w.toNat % 128, Nat.mod_lt _ (by decide)⟩
  have ew : BitVec.ofNat 32 (128 * (w.toNat / 128) + w.toNat % 128) = w := by
    rw [Nat.div_add_mod, BitVec.ofNat_toNat, BitVec.setWidth_eq]
  simp only [ew] at e
  exact e

/-! ### The vectors, at an index -/

theorem laneIdx_at (p : Vec Ideal S1x128 .i32) (r : Fin 16) (l : Fin 128) : laneIdx (F := Ideal) p (ix2 r l) = laneW (p (ix2 0 l)) := by
  unfold laneIdx laneOf permRows laneW
  pointwise
  rfl
theorem upper_at (p : Vec Ideal S1x128 .i32) (r : Fin 16) (l : Fin 128) : upperOf (F := Ideal) p (ix2 r l) = upperW (p (ix2 0 l)) := by
  unfold upperOf tile40 permRows upperW tileW
  pointwise
theorem tile20_at (p : Vec Ideal S1x128 .i32) (r : Fin 16) (l : Fin 128) : tile20 (F := Ideal) p (ix2 r l) = tile20W (p (ix2 0 l)) := by
  unfold tile20 upperOf tile40 permRows tile20W upperW tileW
  pointwise
  rfl

theorem srcPair_at (x : FVec Ideal S8x5120 .f32) (a b : ℕ) (ha hb) (r : Fin 16) (l : Fin 128) (ha' : a + l.val < 5120) (hb' : b + l.val < 5120) :
    srcPair (F := Ideal) x a b ha hb (ix2 r l) =
      if h : r.val < 8 then x (ix2 ⟨r.val, h⟩ ⟨a + l.val, ha'⟩) else x (ix2 ⟨r.val - 8, by omega⟩ ⟨b + l.val, hb'⟩) := by
  unfold srcPair
  pointwise

theorem gstep_at (acc src : FVec Ideal S16x128 .f32) (p : Vec Ideal S1x128 .i32) (i : BitVec 32) (r : Fin 16) (l : Fin 128) (h : (p (ix2 0 l)).toNat < 5120) :
    gstep (F := Ideal) acc src p i (ix2 r l) =
      if BitVec.ofNat 32 ((p (ix2 0 l)).toNat / 128 % 20) = i then src (ix2 r ⟨(p (ix2 0 l)).toNat % 128, Nat.mod_lt _ (by decide)⟩) else acc (ix2 r l) := by
  have hl : (dynamicGather 1 src (laneIdx (F := Ideal) p)) (ix2 r l) = src (ix2 r ⟨(p (ix2 0 l)).toNat % 128, Nat.mod_lt _ (by decide)⟩) := by
    rw [dynamicGather_apply]
    congr 1
    funext a; apply Fin.ext
    match a with
    | ⟨0, _⟩ => rfl
    | ⟨1, _⟩ =>
      show (laneIdx (F := Ideal) p (ix2 r l)).toNat % 128 = _
      rw [laneIdx_at, (words_of h).1, Nat.mod_mod]
      rfl
  have ht : tile20 (F := Ideal) p (ix2 r l) = BitVec.ofNat 32 ((p (ix2 0 l)).toNat / 128 % 20) := by rw [tile20_at, (words_of h).2.2]
  rw [← hl, ← ht]
  unfold gstep
  pointwise
  by_cases hi : tile20 (F := Ideal) p (ix2 r l) = i
  · rw [if_pos hi, hi]; simp [Scalar.select, IntOp.cmpi]
  · rw [if_neg hi]; rw [show IntOp.cmpi .eq (tile20 (F := Ideal) p (ix2 r l)) i = 0#1 by simp only [IntOp.cmpi]; rw [beq_eq_false_iff_ne.2 hi]; rfl]; rfl

theorem pair_eq (x : FVec Ideal S8x5120 .f32) (r : Fin 16) (i j i' j' : ℕ) (hi hj hi' hj') (e : i = i') (e' : j = j') :
    (if h : r.val < 8 then x (ix2 ⟨r.val, h⟩ ⟨i, hi⟩) else x (ix2 ⟨r.val - 8, by omega⟩ ⟨j, hj⟩))
      = if h : r.val < 8 then x (ix2 ⟨r.val, h⟩ ⟨i', hi'⟩) else x (ix2 ⟨r.val - 8, by omega⟩ ⟨j', hj'⟩) := by
  subst e; subst e'; rfl

theorem gacc_at (x : FVec Ideal S8x5120 .f32) (p : Vec Ideal S1x128 .i32) (r : Fin 16) (l : Fin 128) (h : (p (ix2 0 l)).toNat < 5120) :
    gacc20 (F := Ideal) x p (ix2 r l) =
      if h8 : r.val < 8 then x (ix2 ⟨r.val, h8⟩ ⟨128 * ((p (ix2 0 l)).toNat / 128 % 20) + (p (ix2 0 l)).toNat % 128, by omega⟩)
      else x (ix2 ⟨r.val - 8, by omega⟩ ⟨2560 + 128 * ((p (ix2 0 l)).toNat / 128 % 20) + (p (ix2 0 l)).toNat % 128, by omega⟩) := by
  have hl : (p (ix2 0 l)).toNat % 128 < 128 := Nat.mod_lt _ (by decide)
  have ht : (p (ix2 0 l)).toNat / 128 % 20 < 20 := Nat.mod_lt _ (by decide)
  have g20 := gstep_at (gacc19 x p) (srcPair x 2432 4992 slices_S8x5120_o0_2432_S8x128 slices_S8x5120_o0_4992_S8x128) p 19#32 r l h
  rw [srcPair_at x 2432 4992 _ _ r ⟨(p (ix2 0 l)).toNat % 128, hl⟩ (by show 2432 + (p (ix2 0 l)).toNat % 128 < 5120; omega) (by show 4992 + (p (ix2 0 l)).toNat % 128 < 5120; omega)] at g20
  have g19 := gstep_at (gacc18 x p) (srcPair x 2304 4864 slices_S8x5120_o0_2304_S8x128 slices_S8x5120_o0_4864_S8x128) p 18#32 r l h
  rw [srcPair_at x 2304 4864 _ _ r ⟨(p (ix2 0 l)).toNat % 128, hl⟩ (by show 2304 + (p (ix2 0 l)).toNat % 128 < 5120; omega) (by show 4864 + (p (ix2 0 l)).toNat % 128 < 5120; omega)] at g19
  have g18 := gstep_at (gacc17 x p) (srcPair x 2176 4736 slices_S8x5120_o0_2176_S8x128 slices_S8x5120_o0_4736_S8x128) p 17#32 r l h
  rw [srcPair_at x 2176 4736 _ _ r ⟨(p (ix2 0 l)).toNat % 128, hl⟩ (by show 2176 + (p (ix2 0 l)).toNat % 128 < 5120; omega) (by show 4736 + (p (ix2 0 l)).toNat % 128 < 5120; omega)] at g18
  have g17 := gstep_at (gacc16 x p) (srcPair x 2048 4608 slices_S8x5120_o0_2048_S8x128 slices_S8x5120_o0_4608_S8x128) p 16#32 r l h
  rw [srcPair_at x 2048 4608 _ _ r ⟨(p (ix2 0 l)).toNat % 128, hl⟩ (by show 2048 + (p (ix2 0 l)).toNat % 128 < 5120; omega) (by show 4608 + (p (ix2 0 l)).toNat % 128 < 5120; omega)] at g17
  have g16 := gstep_at (gacc15 x p) (srcPair x 1920 4480 slices_S8x5120_o0_1920_S8x128 slices_S8x5120_o0_4480_S8x128) p 15#32 r l h
  rw [srcPair_at x 1920 4480 _ _ r ⟨(p (ix2 0 l)).toNat % 128, hl⟩ (by show 1920 + (p (ix2 0 l)).toNat % 128 < 5120; omega) (by show 4480 + (p (ix2 0 l)).toNat % 128 < 5120; omega)] at g16
  have g15 := gstep_at (gacc14 x p) (srcPair x 1792 4352 slices_S8x5120_o0_1792_S8x128 slices_S8x5120_o0_4352_S8x128) p 14#32 r l h
  rw [srcPair_at x 1792 4352 _ _ r ⟨(p (ix2 0 l)).toNat % 128, hl⟩ (by show 1792 + (p (ix2 0 l)).toNat % 128 < 5120; omega) (by show 4352 + (p (ix2 0 l)).toNat % 128 < 5120; omega)] at g15
  have g14 := gstep_at (gacc13 x p) (srcPair x 1664 4224 slices_S8x5120_o0_1664_S8x128 slices_S8x5120_o0_4224_S8x128) p 13#32 r l h
  rw [srcPair_at x 1664 4224 _ _ r ⟨(p (ix2 0 l)).toNat % 128, hl⟩ (by show 1664 + (p (ix2 0 l)).toNat % 128 < 5120; omega) (by show 4224 + (p (ix2 0 l)).toNat % 128 < 5120; omega)] at g14
  have g13 := gstep_at (gacc12 x p) (srcPair x 1536 4096 slices_S8x5120_o0_1536_S8x128 slices_S8x5120_o0_4096_S8x128) p 12#32 r l h
  rw [srcPair_at x 1536 4096 _ _ r ⟨(p (ix2 0 l)).toNat % 128, hl⟩ (by show 1536 + (p (ix2 0 l)).toNat % 128 < 5120; omega) (by show 4096 + (p (ix2 0 l)).toNat % 128 < 5120; omega)] at g13
  have g12 := gstep_at (gacc11 x p) (srcPair x 1408 3968 slices_S8x5120_o0_1408_S8x128 slices_S8x5120_o0_3968_S8x128) p 11#32 r l h
  rw [srcPair_at x 1408 3968 _ _ r ⟨(p (ix2 0 l)).toNat % 128, hl⟩ (by show 1408 + (p (ix2 0 l)).toNat % 128 < 5120; omega) (by show 3968 + (p (ix2 0 l)).toNat % 128 < 5120; omega)] at g12
  have g11 := gstep_at (gacc10 x p) (srcPair x 1280 3840 slices_S8x5120_o0_1280_S8x128 slices_S8x5120_o0_3840_S8x128) p 10#32 r l h
  rw [srcPair_at x 1280 3840 _ _ r ⟨(p (ix2 0 l)).toNat % 128, hl⟩ (by show 1280 + (p (ix2 0 l)).toNat % 128 < 5120; omega) (by show 3840 + (p (ix2 0 l)).toNat % 128 < 5120; omega)] at g11
  have g10 := gstep_at (gacc9 x p) (srcPair x 1152 3712 slices_S8x5120_o0_1152_S8x128 slices_S8x5120_o0_3712_S8x128) p 9#32 r l h
  rw [srcPair_at x 1152 3712 _ _ r ⟨(p (ix2 0 l)).toNat % 128, hl⟩ (by show 1152 + (p (ix2 0 l)).toNat % 128 < 5120; omega) (by show 3712 + (p (ix2 0 l)).toNat % 128 < 5120; omega)] at g10
  have g9 := gstep_at (gacc8 x p) (srcPair x 1024 3584 slices_S8x5120_o0_1024_S8x128 slices_S8x5120_o0_3584_S8x128) p 8#32 r l h
  rw [srcPair_at x 1024 3584 _ _ r ⟨(p (ix2 0 l)).toNat % 128, hl⟩ (by show 1024 + (p (ix2 0 l)).toNat % 128 < 5120; omega) (by show 3584 + (p (ix2 0 l)).toNat % 128 < 5120; omega)] at g9
  have g8 := gstep_at (gacc7 x p) (srcPair x 896 3456 slices_S8x5120_o0_896_S8x128 slices_S8x5120_o0_3456_S8x128) p 7#32 r l h
  rw [srcPair_at x 896 3456 _ _ r ⟨(p (ix2 0 l)).toNat % 128, hl⟩ (by show 896 + (p (ix2 0 l)).toNat % 128 < 5120; omega) (by show 3456 + (p (ix2 0 l)).toNat % 128 < 5120; omega)] at g8
  have g7 := gstep_at (gacc6 x p) (srcPair x 768 3328 slices_S8x5120_o0_768_S8x128 slices_S8x5120_o0_3328_S8x128) p 6#32 r l h
  rw [srcPair_at x 768 3328 _ _ r ⟨(p (ix2 0 l)).toNat % 128, hl⟩ (by show 768 + (p (ix2 0 l)).toNat % 128 < 5120; omega) (by show 3328 + (p (ix2 0 l)).toNat % 128 < 5120; omega)] at g7
  have g6 := gstep_at (gacc5 x p) (srcPair x 640 3200 slices_S8x5120_o0_640_S8x128 slices_S8x5120_o0_3200_S8x128) p 5#32 r l h
  rw [srcPair_at x 640 3200 _ _ r ⟨(p (ix2 0 l)).toNat % 128, hl⟩ (by show 640 + (p (ix2 0 l)).toNat % 128 < 5120; omega) (by show 3200 + (p (ix2 0 l)).toNat % 128 < 5120; omega)] at g6
  have g5 := gstep_at (gacc4 x p) (srcPair x 512 3072 slices_S8x5120_o0_512_S8x128 slices_S8x5120_o0_3072_S8x128) p 4#32 r l h
  rw [srcPair_at x 512 3072 _ _ r ⟨(p (ix2 0 l)).toNat % 128, hl⟩ (by show 512 + (p (ix2 0 l)).toNat % 128 < 5120; omega) (by show 3072 + (p (ix2 0 l)).toNat % 128 < 5120; omega)] at g5
  have g4 := gstep_at (gacc3 x p) (srcPair x 384 2944 slices_S8x5120_o0_384_S8x128 slices_S8x5120_o0_2944_S8x128) p 3#32 r l h
  rw [srcPair_at x 384 2944 _ _ r ⟨(p (ix2 0 l)).toNat % 128, hl⟩ (by show 384 + (p (ix2 0 l)).toNat % 128 < 5120; omega) (by show 2944 + (p (ix2 0 l)).toNat % 128 < 5120; omega)] at g4
  have g3 := gstep_at (gacc2 x p) (srcPair x 256 2816 slices_S8x5120_o0_256_S8x128 slices_S8x5120_o0_2816_S8x128) p 2#32 r l h
  rw [srcPair_at x 256 2816 _ _ r ⟨(p (ix2 0 l)).toNat % 128, hl⟩ (by show 256 + (p (ix2 0 l)).toNat % 128 < 5120; omega) (by show 2816 + (p (ix2 0 l)).toNat % 128 < 5120; omega)] at g3
  have g2 := gstep_at (gacc1 x p) (srcPair x 128 2688 slices_S8x5120_o0_128_S8x128 slices_S8x5120_o0_2688_S8x128) p 1#32 r l h
  rw [srcPair_at x 128 2688 _ _ r ⟨(p (ix2 0 l)).toNat % 128, hl⟩ (by show 128 + (p (ix2 0 l)).toNat % 128 < 5120; omega) (by show 2688 + (p (ix2 0 l)).toNat % 128 < 5120; omega)] at g2
  have g1 := gstep_at (gacc0 x p) (srcPair x 0 2560 slices_S8x5120_o0_0_S8x128 slices_S8x5120_o0_2560_S8x128) p 0#32 r l h
  rw [srcPair_at x 0 2560 _ _ r ⟨(p (ix2 0 l)).toNat % 128, hl⟩ (by show 0 + (p (ix2 0 l)).toNat % 128 < 5120; omega) (by show 2560 + (p (ix2 0 l)).toNat % 128 < 5120; omega)] at g1
  have hc : (p (ix2 0 l)).toNat / 128 % 20 = 0 ∨ (p (ix2 0 l)).toNat / 128 % 20 = 1 ∨ (p (ix2 0 l)).toNat / 128 % 20 = 2 ∨ (p (ix2 0 l)).toNat / 128 % 20 = 3 ∨ (p (ix2 0 l)).toNat / 128 % 20 = 4 ∨ (p (ix2 0 l)).toNat / 128 % 20 = 5 ∨ (p (ix2 0 l)).toNat / 128 % 20 = 6 ∨ (p (ix2 0 l)).toNat / 128 % 20 = 7 ∨ (p (ix2 0 l)).toNat / 128 % 20 = 8 ∨ (p (ix2 0 l)).toNat / 128 % 20 = 9 ∨ (p (ix2 0 l)).toNat / 128 % 20 = 10 ∨ (p (ix2 0 l)).toNat / 128 % 20 = 11 ∨ (p (ix2 0 l)).toNat / 128 % 20 = 12 ∨ (p (ix2 0 l)).toNat / 128 % 20 = 13 ∨ (p (ix2 0 l)).toNat / 128 % 20 = 14 ∨ (p (ix2 0 l)).toNat / 128 % 20 = 15 ∨ (p (ix2 0 l)).toNat / 128 % 20 = 16 ∨ (p (ix2 0 l)).toNat / 128 % 20 = 17 ∨ (p (ix2 0 l)).toNat / 128 % 20 = 18 ∨ (p (ix2 0 l)).toNat / 128 % 20 = 19 := by omega
  rcases hc with hc | hc | hc | hc | hc | hc | hc | hc | hc | hc | hc | hc | hc | hc | hc | hc | hc | hc | hc | hc
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; refine (g7.trans (if_neg (by rw [hc]; decide))).trans ?_; refine (g6.trans (if_neg (by rw [hc]; decide))).trans ?_; refine (g5.trans (if_neg (by rw [hc]; decide))).trans ?_; refine (g4.trans (if_neg (by rw [hc]; decide))).trans ?_; refine (g3.trans (if_neg (by rw [hc]; decide))).trans ?_; refine (g2.trans (if_neg (by rw [hc]; decide))).trans ?_; exact (g1.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; refine (g7.trans (if_neg (by rw [hc]; decide))).trans ?_; refine (g6.trans (if_neg (by rw [hc]; decide))).trans ?_; refine (g5.trans (if_neg (by rw [hc]; decide))).trans ?_; refine (g4.trans (if_neg (by rw [hc]; decide))).trans ?_; refine (g3.trans (if_neg (by rw [hc]; decide))).trans ?_; exact (g2.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; refine (g7.trans (if_neg (by rw [hc]; decide))).trans ?_; refine (g6.trans (if_neg (by rw [hc]; decide))).trans ?_; refine (g5.trans (if_neg (by rw [hc]; decide))).trans ?_; refine (g4.trans (if_neg (by rw [hc]; decide))).trans ?_; exact (g3.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; refine (g7.trans (if_neg (by rw [hc]; decide))).trans ?_; refine (g6.trans (if_neg (by rw [hc]; decide))).trans ?_; refine (g5.trans (if_neg (by rw [hc]; decide))).trans ?_; exact (g4.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; refine (g7.trans (if_neg (by rw [hc]; decide))).trans ?_; refine (g6.trans (if_neg (by rw [hc]; decide))).trans ?_; exact (g5.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; refine (g7.trans (if_neg (by rw [hc]; decide))).trans ?_; exact (g6.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; refine (g8.trans (if_neg (by rw [hc]; decide))).trans ?_; exact (g7.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; refine (g9.trans (if_neg (by rw [hc]; decide))).trans ?_; exact (g8.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; refine (g10.trans (if_neg (by rw [hc]; decide))).trans ?_; exact (g9.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; refine (g11.trans (if_neg (by rw [hc]; decide))).trans ?_; exact (g10.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; refine (g12.trans (if_neg (by rw [hc]; decide))).trans ?_; exact (g11.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; refine (g13.trans (if_neg (by rw [hc]; decide))).trans ?_; exact (g12.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; refine (g14.trans (if_neg (by rw [hc]; decide))).trans ?_; exact (g13.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; refine (g15.trans (if_neg (by rw [hc]; decide))).trans ?_; exact (g14.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; refine (g16.trans (if_neg (by rw [hc]; decide))).trans ?_; exact (g15.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; refine (g17.trans (if_neg (by rw [hc]; decide))).trans ?_; exact (g16.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; refine (g18.trans (if_neg (by rw [hc]; decide))).trans ?_; exact (g17.trans (if_pos (by rw [hc]))).trans (pair_eq x r _ _ _ _ _ _ _ _ (by rw [hc]) (by rw [hc]))
  · refine (g20.trans (if_neg (by rw [hc]; decide))).trans ?_; refine (g19.trans (if_neg (by rw [hc]; decide))).trans ?_; exact (g18.trans (if_pos (by rw [hc]))).trans (pair_eq x r _ _ _ _ _ _ _ _ (by rw [hc]) (by rw [hc]))
  · refine (g20.trans (if_neg (by rw [hc]; decide))).trans ?_; exact (g19.trans (if_pos (by rw [hc]))).trans (pair_eq x r _ _ _ _ _ _ _ _ (by rw [hc]) (by rw [hc]))
  · exact (g20.trans (if_pos (by rw [hc]))).trans (pair_eq x r _ _ _ _ _ _ _ _ (by rw [hc]) (by rw [hc]))

/-- A gathered tile: lane `l` holds the activation the permutation's word names. -/
theorem gat_at (x : FVec Ideal S8x5120 .f32) (p : Vec Ideal S1x128 .i32) (b : Fin 8) (l : Fin 128) (h : (p (ix2 0 l)).toNat < 5120) :
    gat (F := Ideal) x p (ix2 b l) = x (ix2 b ⟨(p (ix2 0 l)).toNat, h⟩) := by
  have hb := b.isLt
  have hp : gat (F := Ideal) x p (ix2 b l) = if upperW (p (ix2 0 l)) = 1#1 then gacc20 x p (ix2 ⟨8 + b.val, by omega⟩ l) else gacc20 x p (ix2 ⟨b.val, by omega⟩ l) := by
    rw [← upper_at p ⟨b.val, by omega⟩ l]
    unfold gat pickHalf
    pointwise
    rfl
  rw [hp, gacc_at x p _ l h, gacc_at x p _ l h]
  by_cases hu : 20 ≤ (p (ix2 0 l)).toNat / 128
  · rw [if_pos ((words_of h).2.1.2 hu), dif_neg (show ¬ 8 + b.val < 8 by omega)]
    congr 1
    exact congrArg₂ ix2 (Fin.ext (show 8 + b.val - 8 = b.val by omega)) (Fin.ext (show 2560 + 128 * ((p (ix2 0 l)).toNat / 128 % 20) + (p (ix2 0 l)).toNat % 128 = (p (ix2 0 l)).toNat by omega))
  · rw [if_neg (fun hh => hu ((words_of h).2.1.1 hh)), dif_pos (show b.val < 8 by omega)]
    congr 1
    exact congrArg₂ ix2 rfl (Fin.ext (show 128 * ((p (ix2 0 l)).toNat / 128 % 20) + (p (ix2 0 l)).toNat % 128 = (p (ix2 0 l)).toNat by omega))

/-! ### The gathered buffer -/

section Buffer
variable (c : Dev nD) (arg0 : Memref sig .tc .vmem S8x5120 .bf16) (arg1 : Memref sig .tc .vmem S40x128 .i32) (f0 : Bf (F := Ideal) c arg0) (f1 : Bf (F := Ideal) c arg1)

theorem xld_at (i : S8x5120.Idx) : xld (F := Ideal) c arg0 f0 i = arg0.view.read (Elt Ideal) f0 i := by
  unfold xld xin
  rw [shapeCast_id]
  show arg0.view.read (Elt Ideal) f0 _ = _
  congr 1
  funext a; apply Fin.ext
  match a with
  | ⟨0, _⟩ => show 0 + 1 * (i 0).val = (i 0).val; omega
  | ⟨1, _⟩ => show 0 + 1 * (i 1).val = (i 1).val; omega

theorem pld_at (j : ℕ) (h) (l : Fin 128) (hj : j < 40) : pld (F := Ideal) c arg1 f1 j h (ix2 0 l) = arg1.view.read (Elt Ideal) f1 (ix2 ⟨j, hj⟩ l) := by
  unfold pld
  show arg1.view.read (Elt Ideal) f1 _ = _
  congr 1
  funext a; apply Fin.ext
  match a with
  | ⟨0, _⟩ => show j + 1 * 0 = j; omega
  | ⟨1, _⟩ => show 0 + 1 * l.val = l.val; omega

/-- The pieces of the first `n` tiles hold, in each of their columns, the activation the permutation names. -/
def holds (n : ℕ) (L : List (View.Piece (Elt Ideal) S8x5120 .bf16)) : Prop :=
  ∀ (hP : ∀ i : S40x128.Idx, (arg1.view.read (Elt Ideal) f1 i : BitVec 32).toNat < 5120) (b : Fin 8) (m : Fin 5120) (hm : m.val < 128 * n),
    (xpM.view.read (Elt Ideal) (xpM.view.writes (Elt Ideal) xpM.view.junk L) (ix2 b m) : EReal)
      = arg0.view.read (Elt Ideal) f0 (ix2 b ⟨(arg1.view.read (Elt Ideal) f1 (ix2 ⟨m.val / 128, by omega⟩ ⟨m.val % 128, Nat.mod_lt _ (by decide)⟩) : BitVec 32).toNat, hP _⟩)

theorem holds_step (n : ℕ) (hn : n < 40) (L : List (View.Piece (Elt Ideal) S8x5120 .bf16)) (ho) (hj) (hL : holds c arg0 arg1 f0 f1 n L) :
    holds c arg0 arg1 f0 f1 (n + 1) (⟨Rect.unit (s := S8x5120) ![0, 128 * n] S8x128.size ho, gat (xld c arg0 f0) (pld c arg1 f1 n hj)⟩ :: L) := by
  intro hP b m hm
  by_cases h : m.val < 128 * n
  · rw [← hL hP b m h]
    exact View.read_writes_cons_unit_of_not_mem xpM.view _ _ _ _ _ rfl 1 (Or.inl (show m.val < 128 * n from h))
  · refine (View.read_writes_cons_unit_of_mem xpM.view _ _ _ _ _ (ix2 b ⟨m.val % 128, Nat.mod_lt _ (by decide)⟩ : S8x128.Idx) rfl ?_).trans ?_
    · intro x
      match x with
      | ⟨0, _⟩ => show b.val = 0 + b.val; omega
      | ⟨1, _⟩ => show m.val = 128 * n + m.val % 128; omega
    · have hw := pld_at c arg1 f1 n hj ⟨m.val % 128, Nat.mod_lt _ (by decide)⟩ hn
      have hlt : (pld (F := Ideal) c arg1 f1 n hj (ix2 0 ⟨m.val % 128, Nat.mod_lt _ (by decide)⟩) : BitVec 32).toNat < 5120 := by rw [hw]; exact hP _
      have hd : m.val / 128 = n := by omega
      rw [gat_at _ _ b ⟨m.val % 128, Nat.mod_lt _ (by decide)⟩ hlt, xld_at]
      congr 1
      refine congrArg (ix2 b) (Fin.ext ?_)
      show (pld (F := Ideal) c arg1 f1 n hj (ix2 0 ⟨m.val % 128, Nat.mod_lt _ (by decide)⟩) : BitVec 32).toNat = _
      rw [hw]
      simp only [hd]

theorem holds_1 : holds c arg0 arg1 f0 f1 1 (bodyRun.sl.H6_1 c arg0 arg1 f0 f1) :=
  tile_0 c arg0 arg1 f0 f1 ▸ holds_step c arg0 arg1 f0 f1 0 (by decide) [] _ _ (fun _ b m hm => absurd hm (by omega))
theorem holds_2 : holds c arg0 arg1 f0 f1 2 (bodyRun.sl.H6_2 c arg0 arg1 f0 f1) :=
  tile_1 c arg0 arg1 f0 f1 ▸ holds_step c arg0 arg1 f0 f1 1 (by decide) _ _ _ (holds_1 c arg0 arg1 f0 f1)
theorem holds_3 : holds c arg0 arg1 f0 f1 3 (bodyRun.sl.H6_3 c arg0 arg1 f0 f1) :=
  tile_2 c arg0 arg1 f0 f1 ▸ holds_step c arg0 arg1 f0 f1 2 (by decide) _ _ _ (holds_2 c arg0 arg1 f0 f1)
theorem holds_4 : holds c arg0 arg1 f0 f1 4 (bodyRun.sl.H6_4 c arg0 arg1 f0 f1) :=
  tile_3 c arg0 arg1 f0 f1 ▸ holds_step c arg0 arg1 f0 f1 3 (by decide) _ _ _ (holds_3 c arg0 arg1 f0 f1)
theorem holds_5 : holds c arg0 arg1 f0 f1 5 (bodyRun.sl.H6_5 c arg0 arg1 f0 f1) :=
  tile_4 c arg0 arg1 f0 f1 ▸ holds_step c arg0 arg1 f0 f1 4 (by decide) _ _ _ (holds_4 c arg0 arg1 f0 f1)
theorem holds_6 : holds c arg0 arg1 f0 f1 6 (bodyRun.sl.H6_6 c arg0 arg1 f0 f1) :=
  tile_5 c arg0 arg1 f0 f1 ▸ holds_step c arg0 arg1 f0 f1 5 (by decide) _ _ _ (holds_5 c arg0 arg1 f0 f1)
theorem holds_7 : holds c arg0 arg1 f0 f1 7 (bodyRun.sl.H6_7 c arg0 arg1 f0 f1) :=
  tile_6 c arg0 arg1 f0 f1 ▸ holds_step c arg0 arg1 f0 f1 6 (by decide) _ _ _ (holds_6 c arg0 arg1 f0 f1)
theorem holds_8 : holds c arg0 arg1 f0 f1 8 (bodyRun.sl.H6_8 c arg0 arg1 f0 f1) :=
  tile_7 c arg0 arg1 f0 f1 ▸ holds_step c arg0 arg1 f0 f1 7 (by decide) _ _ _ (holds_7 c arg0 arg1 f0 f1)
theorem holds_9 : holds c arg0 arg1 f0 f1 9 (bodyRun.sl.H6_9 c arg0 arg1 f0 f1) :=
  tile_8 c arg0 arg1 f0 f1 ▸ holds_step c arg0 arg1 f0 f1 8 (by decide) _ _ _ (holds_8 c arg0 arg1 f0 f1)
theorem holds_10 : holds c arg0 arg1 f0 f1 10 (bodyRun.sl.H6_10 c arg0 arg1 f0 f1) :=
  tile_9 c arg0 arg1 f0 f1 ▸ holds_step c arg0 arg1 f0 f1 9 (by decide) _ _ _ (holds_9 c arg0 arg1 f0 f1)
theorem holds_11 : holds c arg0 arg1 f0 f1 11 (bodyRun.sl.H6_11 c arg0 arg1 f0 f1) :=
  tile_10 c arg0 arg1 f0 f1 ▸ holds_step c arg0 arg1 f0 f1 10 (by decide) _ _ _ (holds_10 c arg0 arg1 f0 f1)
theorem holds_12 : holds c arg0 arg1 f0 f1 12 (bodyRun.sl.H6_12 c arg0 arg1 f0 f1) :=
  tile_11 c arg0 arg1 f0 f1 ▸ holds_step c arg0 arg1 f0 f1 11 (by decide) _ _ _ (holds_11 c arg0 arg1 f0 f1)
theorem holds_13 : holds c arg0 arg1 f0 f1 13 (bodyRun.sl.H6_13 c arg0 arg1 f0 f1) :=
  tile_12 c arg0 arg1 f0 f1 ▸ holds_step c arg0 arg1 f0 f1 12 (by decide) _ _ _ (holds_12 c arg0 arg1 f0 f1)
theorem holds_14 : holds c arg0 arg1 f0 f1 14 (bodyRun.sl.H6_14 c arg0 arg1 f0 f1) :=
  tile_13 c arg0 arg1 f0 f1 ▸ holds_step c arg0 arg1 f0 f1 13 (by decide) _ _ _ (holds_13 c arg0 arg1 f0 f1)
theorem holds_15 : holds c arg0 arg1 f0 f1 15 (bodyRun.sl.H6_15 c arg0 arg1 f0 f1) :=
  tile_14 c arg0 arg1 f0 f1 ▸ holds_step c arg0 arg1 f0 f1 14 (by decide) _ _ _ (holds_14 c arg0 arg1 f0 f1)
theorem holds_16 : holds c arg0 arg1 f0 f1 16 (bodyRun.sl.H6_16 c arg0 arg1 f0 f1) :=
  tile_15 c arg0 arg1 f0 f1 ▸ holds_step c arg0 arg1 f0 f1 15 (by decide) _ _ _ (holds_15 c arg0 arg1 f0 f1)
theorem holds_17 : holds c arg0 arg1 f0 f1 17 (bodyRun.sl.H6_17 c arg0 arg1 f0 f1) :=
  tile_16 c arg0 arg1 f0 f1 ▸ holds_step c arg0 arg1 f0 f1 16 (by decide) _ _ _ (holds_16 c arg0 arg1 f0 f1)
theorem holds_18 : holds c arg0 arg1 f0 f1 18 (bodyRun.sl.H6_18 c arg0 arg1 f0 f1) :=
  tile_17 c arg0 arg1 f0 f1 ▸ holds_step c arg0 arg1 f0 f1 17 (by decide) _ _ _ (holds_17 c arg0 arg1 f0 f1)
theorem holds_19 : holds c arg0 arg1 f0 f1 19 (bodyRun.sl.H6_19 c arg0 arg1 f0 f1) :=
  tile_18 c arg0 arg1 f0 f1 ▸ holds_step c arg0 arg1 f0 f1 18 (by decide) _ _ _ (holds_18 c arg0 arg1 f0 f1)
theorem holds_20 : holds c arg0 arg1 f0 f1 20 (bodyRun.sl.H6_20 c arg0 arg1 f0 f1) :=
  tile_19 c arg0 arg1 f0 f1 ▸ holds_step c arg0 arg1 f0 f1 19 (by decide) _ _ _ (holds_19 c arg0 arg1 f0 f1)
theorem holds_21 : holds c arg0 arg1 f0 f1 21 (bodyRun.sl.H6_21 c arg0 arg1 f0 f1) :=
  tile_20 c arg0 arg1 f0 f1 ▸ holds_step c arg0 arg1 f0 f1 20 (by decide) _ _ _ (holds_20 c arg0 arg1 f0 f1)
theorem holds_22 : holds c arg0 arg1 f0 f1 22 (bodyRun.sl.H6_22 c arg0 arg1 f0 f1) :=
  tile_21 c arg0 arg1 f0 f1 ▸ holds_step c arg0 arg1 f0 f1 21 (by decide) _ _ _ (holds_21 c arg0 arg1 f0 f1)
theorem holds_23 : holds c arg0 arg1 f0 f1 23 (bodyRun.sl.H6_23 c arg0 arg1 f0 f1) :=
  tile_22 c arg0 arg1 f0 f1 ▸ holds_step c arg0 arg1 f0 f1 22 (by decide) _ _ _ (holds_22 c arg0 arg1 f0 f1)
theorem holds_24 : holds c arg0 arg1 f0 f1 24 (bodyRun.sl.H6_24 c arg0 arg1 f0 f1) :=
  tile_23 c arg0 arg1 f0 f1 ▸ holds_step c arg0 arg1 f0 f1 23 (by decide) _ _ _ (holds_23 c arg0 arg1 f0 f1)
theorem holds_25 : holds c arg0 arg1 f0 f1 25 (bodyRun.sl.H6_25 c arg0 arg1 f0 f1) :=
  tile_24 c arg0 arg1 f0 f1 ▸ holds_step c arg0 arg1 f0 f1 24 (by decide) _ _ _ (holds_24 c arg0 arg1 f0 f1)
theorem holds_26 : holds c arg0 arg1 f0 f1 26 (bodyRun.sl.H6_26 c arg0 arg1 f0 f1) :=
  tile_25 c arg0 arg1 f0 f1 ▸ holds_step c arg0 arg1 f0 f1 25 (by decide) _ _ _ (holds_25 c arg0 arg1 f0 f1)
theorem holds_27 : holds c arg0 arg1 f0 f1 27 (bodyRun.sl.H6_27 c arg0 arg1 f0 f1) :=
  tile_26 c arg0 arg1 f0 f1 ▸ holds_step c arg0 arg1 f0 f1 26 (by decide) _ _ _ (holds_26 c arg0 arg1 f0 f1)
theorem holds_28 : holds c arg0 arg1 f0 f1 28 (bodyRun.sl.H6_28 c arg0 arg1 f0 f1) :=
  tile_27 c arg0 arg1 f0 f1 ▸ holds_step c arg0 arg1 f0 f1 27 (by decide) _ _ _ (holds_27 c arg0 arg1 f0 f1)
theorem holds_29 : holds c arg0 arg1 f0 f1 29 (bodyRun.sl.H6_29 c arg0 arg1 f0 f1) :=
  tile_28 c arg0 arg1 f0 f1 ▸ holds_step c arg0 arg1 f0 f1 28 (by decide) _ _ _ (holds_28 c arg0 arg1 f0 f1)
theorem holds_30 : holds c arg0 arg1 f0 f1 30 (bodyRun.sl.H6_30 c arg0 arg1 f0 f1) :=
  tile_29 c arg0 arg1 f0 f1 ▸ holds_step c arg0 arg1 f0 f1 29 (by decide) _ _ _ (holds_29 c arg0 arg1 f0 f1)
theorem holds_31 : holds c arg0 arg1 f0 f1 31 (bodyRun.sl.H6_31 c arg0 arg1 f0 f1) :=
  tile_30 c arg0 arg1 f0 f1 ▸ holds_step c arg0 arg1 f0 f1 30 (by decide) _ _ _ (holds_30 c arg0 arg1 f0 f1)
theorem holds_32 : holds c arg0 arg1 f0 f1 32 (bodyRun.sl.H6_32 c arg0 arg1 f0 f1) :=
  tile_31 c arg0 arg1 f0 f1 ▸ holds_step c arg0 arg1 f0 f1 31 (by decide) _ _ _ (holds_31 c arg0 arg1 f0 f1)
theorem holds_33 : holds c arg0 arg1 f0 f1 33 (bodyRun.sl.H6_33 c arg0 arg1 f0 f1) :=
  tile_32 c arg0 arg1 f0 f1 ▸ holds_step c arg0 arg1 f0 f1 32 (by decide) _ _ _ (holds_32 c arg0 arg1 f0 f1)
theorem holds_34 : holds c arg0 arg1 f0 f1 34 (bodyRun.sl.H6_34 c arg0 arg1 f0 f1) :=
  tile_33 c arg0 arg1 f0 f1 ▸ holds_step c arg0 arg1 f0 f1 33 (by decide) _ _ _ (holds_33 c arg0 arg1 f0 f1)
theorem holds_35 : holds c arg0 arg1 f0 f1 35 (bodyRun.sl.H6_35 c arg0 arg1 f0 f1) :=
  tile_34 c arg0 arg1 f0 f1 ▸ holds_step c arg0 arg1 f0 f1 34 (by decide) _ _ _ (holds_34 c arg0 arg1 f0 f1)
theorem holds_36 : holds c arg0 arg1 f0 f1 36 (bodyRun.sl.H6_36 c arg0 arg1 f0 f1) :=
  tile_35 c arg0 arg1 f0 f1 ▸ holds_step c arg0 arg1 f0 f1 35 (by decide) _ _ _ (holds_35 c arg0 arg1 f0 f1)
theorem holds_37 : holds c arg0 arg1 f0 f1 37 (bodyRun.sl.H6_37 c arg0 arg1 f0 f1) :=
  tile_36 c arg0 arg1 f0 f1 ▸ holds_step c arg0 arg1 f0 f1 36 (by decide) _ _ _ (holds_36 c arg0 arg1 f0 f1)
theorem holds_38 : holds c arg0 arg1 f0 f1 38 (bodyRun.sl.H6_38 c arg0 arg1 f0 f1) :=
  tile_37 c arg0 arg1 f0 f1 ▸ holds_step c arg0 arg1 f0 f1 37 (by decide) _ _ _ (holds_37 c arg0 arg1 f0 f1)
theorem holds_39 : holds c arg0 arg1 f0 f1 39 (bodyRun.sl.H6_39 c arg0 arg1 f0 f1) :=
  tile_38 c arg0 arg1 f0 f1 ▸ holds_step c arg0 arg1 f0 f1 38 (by decide) _ _ _ (holds_38 c arg0 arg1 f0 f1)
theorem holds_40 : holds c arg0 arg1 f0 f1 40 (bodyRun.sl.H6_40 c arg0 arg1 f0 f1) :=
  tile_39 c arg0 arg1 f0 f1 ▸ holds_step c arg0 arg1 f0 f1 39 (by decide) _ _ _ (holds_39 c arg0 arg1 f0 f1)

/-- The gathered buffer. -/
theorem gathered_at (XQ : Bf (F := Ideal) c qM) (XS : Bf (F := Ideal) c sM) (XZ : Bf (F := Ideal) c zM) (harg0 : arg0.IsWhole) (harg1 : arg1.IsWhole)
    (arg5 : Memref sig .tc .vmem S8x17920 .bf16) (harg5 : arg5.IsWhole)
    (hP : ∀ i : S40x128.Idx, (arg1.view.read (Elt Ideal) f1 i : BitVec 32).toNat < 5120) (b : Fin 8) (m : Fin 5120) :
    ((bodyRun c XQ XS XZ arg0 harg0 arg1 harg1 arg5 harg5 f0 f1).1 : S8x5120.Idx → EReal) (ix2 b m)
      = arg0.view.read (Elt Ideal) f0 (ix2 b ⟨(arg1.view.read (Elt Ideal) f1 (ix2 ⟨m.val / 128, by omega⟩ ⟨m.val % 128, Nat.mod_lt _ (by decide)⟩) : BitVec 32).toNat, hP _⟩) :=
  holds_40 c arg0 arg1 f0 f1 hP b m m.isLt

end Buffer

end Cert.KernelIdeal.Val

end
-- ==== Proof.KernelIdealResult.lean ====
/-
  The result of `KernelIdeal` over the extended reals, where every word of the permutation lies in 0 … 5119: at row `b`,
  column `n`, the sum over the contraction axis of the permuted activations times the dequantized weights.
-/
module

public import proofs.«01_k».proof.Proof.KernelIdealTile
public import proofs.«01_k».proof.Proof.KernelIdealGatherValue
public import proofs.«01_k».proof.Proof.KernelIdealLaunch
public import Idealize.ShloMosaic.Lib.Pointwise
public import Idealize.ShloMosaic.Lib.Pipeline.ValueKit

@[expose] public section

noncomputable section

namespace Cert.KernelIdeal.Val

open Cert.KernelIdeal Cert.KernelIdeal.Gen
open Cert.KernelIdeal.Hand hiding ix1 ix2
open Idealize.ShloMosaic
open Idealize.ShloMosaic.TcCoe

variable (m : (ℓ : Loc nD τ sig) → Buf (Elt Ideal) ℓ) (ρ : Dev nD → PrngReg)

/-! ### The arrays the region reads -/

abbrev argX (c : Dev nD) : (⟨3, ![8, 1, 5120]⟩ : Shape).Idx → EReal := m ((c.tc : Thread nD τ).loc main_arg0)
abbrev argQ (c : Dev nD) : S2560x17920.Idx → BitVec 8 := m ((c.tc : Thread nD τ).loc main_arg1)
abbrev argS (c : Dev nD) : S40x17920.Idx → EReal := m ((c.tc : Thread nD τ).loc main_arg2)
abbrev argZ (c : Dev nD) : S20x17920.Idx → BitVec 8 := m ((c.tc : Thread nD τ).loc main_arg3)
abbrev argP (c : Dev nD) : (⟨1, ![5120]⟩ : Shape).Idx → BitVec 32 := m ((c.tc : Thread nD τ).loc main_arg5)

theorem V_v0 (c : Dev nD) : V m c main_v0 = shapeCast S8x5120 (argX m c) shapeCasts_S8x1x5120_S8x5120 := by
  unfold V hostOps0
  after_results_simp <;> rfl
theorem V_v1 (c : Dev nD) : V m c main_v1 = shapeCast S40x128 (argP m c) shapeCasts_S5120_S40x128 := by
  unfold V hostOps0
  after_results_simp <;> rfl

theorem V_v0_at (c : Dev nD) (b : Fin 8) (j : Fin 5120) : (V m c main_v0 : S8x5120.Idx → EReal) (ix2 b j) = argX m c (ix3 b 0 j) := by
  rw [V_v0]
  pointwise
theorem V_v1_at (c : Dev nD) (r : Fin 40) (l : Fin 128) : (V m c main_v1 : S40x128.Idx → BitVec 32) (ix2 r l) = argP m c (ix1 ⟨128 * r.val + l.val, by omega⟩) := by
  rw [V_v1]
  pointwise
  exact congrArg (fun j => argP m c (ix1 j)) (Fin.ext (by show r.val * 128 + l.val = 128 * r.val + l.val; omega))

/-! ### The staged blocks -/

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel

theorem iblk0_at (c : Dev nD) (t : Fin cfg0.N) (i : S8x5120.Idx) : (iblk m c 0 t : S8x5120.Idx → EReal) i = (V m c main_v0 : S8x5120.Idx → EReal) i := by
  blk_ext [iblk, index0_0 t]
theorem iblk1_at (c : Dev nD) (t : Fin cfg0.N) (i : S40x128.Idx) : (iblk m c 1 t : S40x128.Idx → BitVec 32) i = (V m c main_v1 : S40x128.Idx → BitVec 32) i := by
  blk_ext [iblk, index0_1 t]

theorem xread (c : Dev nD) (t : Fin cfg0.N) (b : Fin 8) (j : Fin 5120) :
    (st0_0 t).view.read (Elt Ideal) (xbuf m c t) (ix2 b j) = argX m c (ix3 b 0 j) :=
  (congrFun (View.read_rep (st0_0 t).view (iblk m c 0 t)) (ix2 b j)).trans ((iblk0_at m c t _).trans (V_v0_at m c b j))
theorem pread (c : Dev nD) (t : Fin cfg0.N) (r : Fin 40) (l : Fin 128) :
    ((st0_1 t).view.read (Elt Ideal) (pbuf m c t) (ix2 r l) : BitVec 32) = argP m c (ix1 ⟨128 * r.val + l.val, by omega⟩) :=
  (congrFun (View.read_rep (st0_1 t).view (iblk m c 1 t)) (ix2 r l)).trans ((iblk1_at m c t _).trans (V_v1_at m c r l))

theorem gathered_val (c : Dev nD) (t : Fin cfg0.N) (hp : ∀ i, (argP m c i).toNat < 5120) (b : Fin 8) (k : Fin 5120) :
    (gathered m c t : S8x5120.Idx → EReal) (ix2 b k) = permuted (argX m c) (argP m c) (ix2 b k) := by
  have hP : ∀ i : S40x128.Idx, ((st0_1 t).view.read (Elt Ideal) (pbuf m c t) i : BitVec 32).toNat < 5120 := fun i => by
    have hi : i = ix2 (n0 := 40) (n1 := 128) (i 0) (i 1) := by funext a; match a with | ⟨0, _⟩ => rfl | ⟨1, _⟩ => rfl
    have e : ((st0_1 t).view.read (Elt Ideal) (pbuf m c t) i : BitVec 32) = argP m c (ix1 ⟨128 * (i 0).val + (i 1).val, _⟩) :=
      (congrArg ((st0_1 t).view.read (Elt Ideal) (pbuf m c t)) hi).trans (pread m c t (i 0) (i 1))
    exact (congrArg BitVec.toNat e).trans_lt (hp _)
  refine (gathered_at c _ _ _ _ _ _ _ _ _ _ _ hP b k).trans ((xread m c t b _).trans ?_)
  refine congrArg (argX m c) (congrArg (ix3 b 0) (Fin.ext ?_))
  have e : (⟨128 * (k.val / 128) + k.val % 128, by have := k.isLt; rw [Nat.div_add_mod]; exact this⟩ : Fin 5120) = k := Fin.ext (Nat.div_add_mod _ _)
  have h := hp (ix1 k)
  refine (congrArg BitVec.toNat ((pread m c t ⟨k.val / 128, by omega⟩ ⟨k.val % 128, Nat.mod_lt _ (by decide)⟩).trans (congrArg (fun j => argP m c (ix1 j)) e))).trans ?_
  show (argP m c (ix1 k)).toNat = min (argP m c (ix1 k)).toNat 5119
  omega

/-- The gathered buffer: the permuted activations. -/
theorem gathered_eq (c : Dev nD) (t : Fin cfg0.N) (hp : ∀ i, (argP m c i).toNat < 5120) :
    (gathered m c t : S8x5120.Idx → EReal) = permuted (argX m c) (argP m c) := by
  refine funext fun i : S8x5120.Idx => ?_
  have hi : i = ix2 (n0 := 8) (n1 := 5120) (i 0) (i 1) := by funext a; match a with | ⟨0, _⟩ => rfl | ⟨1, _⟩ => rfl
  rw [hi]
  exact gathered_val m c t hp (i 0) (i 1)

/-! ### The result -/

/-- The result array. -/
def result (c : Dev nD) : S8x17920.Idx → EReal :=
  fun i => ∑ k ∈ Finset.range 5120, act (permuted (argX m c) (argP m c)) (i 0) k * wgt (argQ m c) (argS m c) (argZ m c) (i 1) k

theorem outY_eq (c : Dev nD) (t : Fin cfg0.N) (hp : ∀ i, (argP m c i).toNat < 5120) : (outY m c t : S8x17920.Idx → EReal) = result m c := by
  funext i
  have hi : i = ix2 (i 0) (i 1) := by funext a; match a with | ⟨0, _⟩ => rfl | ⟨1, _⟩ => rfl
  rw [hi]
  refine (resultY_apply c _ _ _ _ _ _ _ _ _ _ (i 0) (i 1)).trans ?_
  rw [gathered_eq m c t hp]
  have hQ : (V m c main_arg1 : S2560x17920.Idx → BitVec 8) = argQ m c := V_main_arg1 m c
  have hS : (copyS c (V m c main_arg2) : S40x17920.Idx → EReal) = argS m c := V_main_arg2 m c
  have hZ : (copyZ c (V m c main_arg3) : S20x17920.Idx → BitVec 8) = argZ m c := V_main_arg3 m c
  rw [hQ, hS, hZ]
  rfl

theorem emb2 (t : Fin cfg0.N) (y : S8x17920.Idx) : (((cfg0.win 2).blk t).view.emb y : S8x17920.Idx) = y := by
  blk_ext [index0_2 t]

theorem final (c : Dev nD) (hp : ∀ i, (argP m c i).toNat < 5120) : (dats m 0 c).arrAt 2 cfg0.N = result m c := by
  refine (dats m 0 c).arrAt_eq_of_covers 2 _ (by decide +kernel) fun t hf y => ?_
  refine (show _ = result m c (y : S8x17920.Idx) from ?_).trans (congrArg (result m c) (emb2 t y)).symm
  exact congrFun ((after0_2 m c t).trans (outY_eq m c t hp)) _

/-- The run: the result and the arguments. -/
theorem run (hp : ∀ c i, (argP m c i).toNat < 5120) : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 2).trans (final m c (hp c)), args_of m h.1 c⟩) (run_main m ρ)

end Cert.KernelIdeal.Val

end
-- ==== Proof.ReferenceValue.lean ====
/-
  The result of `ReferenceIdeal` over the extended reals, element by element, where every word of the permutation lies in
  0 … 5119: the same sum over the contraction axis that the kernel's result is.
-/
module

public import proofs.«01_k».proof.Proof.Gen.ReferenceIdeal.Run
public import proofs.«01_k».proof.Proof.KernelIdealTile
public import Idealize.ShloMosaic.Lib.Pointwise

@[expose] public section

noncomputable section

namespace Cert.ReferenceIdeal.Val

open Cert.ReferenceIdeal Cert.ReferenceIdeal.Gen
open Cert.KernelIdeal.Val (nib nib_zero act wgt permuted)
open Idealize.ShloMosaic
open Idealize.ShloMosaic.TcCoe

theorem nib_host : ∀ w : BitVec 8, (IntOp.shrsi .host (BitVec.setWidth 32 w) 4#32).toInt = ((w >>> 4).toNat : ℤ) := by decide +kernel

/-! ### The zero points, the packed words, the weights -/

def zeros (Z : IVec S20x17920 8) : FVec Ideal S40x17920 .bf16 :=
  sitofp .bf16 (concatenate S40x17920 0 [⟨S20x17920, (andi (extui 32 Z natLt_8_32) (broadcastInDim S20x17920 ![] bcast_S_S20x17920 (constantI S_ 32 15#32)))⟩, ⟨S20x17920, (Host.shrsi (extui 32 Z natLt_8_32) (broadcastInDim S20x17920 ![] bcast_S_S20x17920 (constantI S_ 32 4#32)))⟩] concatenates_S20x17920_S20x17920_S40x17920_d0)

def wLo (Q : IVec S2560x17920 8) (S : FVec Ideal S40x17920 .bf16) (Z : IVec S20x17920 8) : FVec Ideal S2560x17920 .bf16 :=
  shapeCast _ (mulf (subf (sitofp .bf16 (andi (shapeCast _ (extui 32 Q natLt_8_32) shapeCasts_S2560x17920_S40x64x17920) (broadcastInDim S40x64x17920 ![] bcast_S_S40x64x17920 (constantI S_ 32 15#32)))) (broadcastInDim S40x64x17920 ![0, 1, 2] bcast_S40x1x17920_S40x64x17920_0_1_2 (broadcastInDim S40x1x17920 ![0, 2] bcast_S40x17920_S40x1x17920_0_2 (zeros Z)))) (broadcastInDim S40x64x17920 ![0, 1, 2] bcast_S40x1x17920_S40x64x17920_0_1_2 (broadcastInDim S40x1x17920 ![0, 2] bcast_S40x17920_S40x1x17920_0_2 S))) shapeCasts_S40x64x17920_S2560x17920

def wHi (Q : IVec S2560x17920 8) (S : FVec Ideal S40x17920 .bf16) (Z : IVec S20x17920 8) : FVec Ideal S2560x17920 .bf16 :=
  shapeCast _ (mulf (subf (sitofp .bf16 (Host.shrsi (shapeCast _ (extui 32 Q natLt_8_32) shapeCasts_S2560x17920_S40x64x17920) (broadcastInDim S40x64x17920 ![] bcast_S_S40x64x17920 (constantI S_ 32 4#32)))) (broadcastInDim S40x64x17920 ![0, 1, 2] bcast_S40x1x17920_S40x64x17920_0_1_2 (broadcastInDim S40x1x17920 ![0, 2] bcast_S40x17920_S40x1x17920_0_2 (zeros Z)))) (broadcastInDim S40x64x17920 ![0, 1, 2] bcast_S40x1x17920_S40x64x17920_0_1_2 (broadcastInDim S40x1x17920 ![0, 2] bcast_S40x17920_S40x1x17920_0_2 S))) shapeCasts_S40x64x17920_S2560x17920

def xPerm (x : FVec Ideal S8x1x5120 .bf16) (p : IVec S5120 32) : FVec Ideal S8x1x5120 .bf16 :=
  Host.gather gather_S8x1x5120_S5120x1_S8x1x5120_01_2_n_n_2_1_811 x (broadcastInDim S5120x1 ![0] bcast_S5120_S5120x1_0 (select (cmpi .slt p (broadcastInDim S5120 ![] bcast_S_S5120 (constantI S_ 32 0#32))) (addi p (broadcastInDim S5120 ![] bcast_S_S5120 (constantI S_ 32 5120#32))) p))

def res (x : FVec Ideal S8x1x5120 .bf16) (Q : IVec S2560x17920 8) (S : FVec Ideal S40x17920 .bf16) (Z : IVec S20x17920 8) (p : IVec S5120 32) : FVec Ideal S8x17920 .bf16 :=
  shapeCast _ (truncf .bf16 (addf
    (Host.dotGeneral dot_S8x1x2560_S2560x17920_S8x1x17920_2_0_01_1_n_n none (Host.slice S8x1x2560 ![0, 0, 0] ![1, 1, 2] (xPerm x p) slicesBy_S8x1x5120_S8x1x2560_0s1_0s1_0s2) (wLo Q S Z))
    (Host.dotGeneral dot_S8x1x2560_S2560x17920_S8x1x17920_2_0_01_1_n_n none (Host.slice S8x1x2560 ![0, 0, 1] ![1, 1, 2] (xPerm x p) slicesBy_S8x1x5120_S8x1x2560_0s1_0s1_1s2) (wHi Q S Z))) bitsLt_bf16_f32) shapeCasts_S8x1x17920_S8x17920

theorem zeros_at (Z : IVec S20x17920 8) (g : Fin 40) (n : Fin 17920) :
    zeros Z (ix2 g n) = nib (Z (ix2 ⟨g.val % 20, Nat.mod_lt _ (by decide)⟩ n)) (g.val / 20) := by
  have hg := g.isLt
  unfold zeros nib
  show ((BitVec.toInt (concatenate _ _ _ _ (ix2 g n)) : ℝ) : EReal) = _
  by_cases h : g.val < 20
  · rw [concatenate_pair_apply_left (s₁ := S20x17920) (s₂ := S20x17920) 0 _ _ _ (ix2 g n) rfl (ix2 ⟨g.val, h⟩ n) (fun b => by match b with | ⟨0, _⟩ => rfl | ⟨1, _⟩ => rfl)]
    rw [if_pos (show g.val / 20 = 0 by omega)]
    simp only [show g.val % 20 = g.val by omega]
    show (((IntOp.andi (BitVec.setWidth 32 (Z (ix2 ⟨g.val, h⟩ n))) 15#32).toInt : ℝ) : EReal) = _
    rw [nib_zero]
    rfl
  · rw [concatenate_pair_apply_right (s₁ := S20x17920) (s₂ := S20x17920) 0 _ _ _ (ix2 g n) rfl rfl (ix2 ⟨g.val - 20, by omega⟩ n) (fun b hb => by match b with | ⟨0, _⟩ => exact absurd rfl hb | ⟨1, _⟩ => rfl) (show g.val - 20 + 20 = g.val by omega)]
    rw [if_neg (show ¬ g.val / 20 = 0 by omega)]
    simp only [show g.val % 20 = g.val - 20 by omega]
    show (((IntOp.shrsi .host (BitVec.setWidth 32 (Z (ix2 ⟨g.val - 20, by omega⟩ n))) 4#32).toInt : ℝ) : EReal) = _
    rw [nib_host]
    rfl

theorem wLo_at (Q : IVec S2560x17920 8) (S : FVec Ideal S40x17920 .bf16) (Z : IVec S20x17920 8) (i : Fin 2560) (n : Fin 17920) :
    wLo Q S Z (ix2 i n) = wgt Q S Z n (2 * i.val) := by
  have hi := i.isLt
  have e : wLo Q S Z (ix2 i n) = (FloatOps.sitofp (F := Ideal) .bf16 (IntOp.andi (BitVec.setWidth 32 (Q (ix2 i n))) 15#32) - zeros Z (ix2 ⟨i.val / 64, by omega⟩ n)) * S (ix2 ⟨i.val / 64, by omega⟩ n) := by
    unfold wLo
    pointwise
  rw [e, zeros_at]
  show ((((IntOp.andi (BitVec.setWidth 32 (Q (ix2 i n))) 15#32).toInt : ℝ) : EReal) - _) * _ = _
  rw [nib_zero]
  unfold wgt
  rw [dif_pos (show 2 * i.val < 5120 by omega)]
  simp only [show 2 * i.val / 2 = i.val by omega, show 2 * i.val % 2 = 0 by omega, show 2 * i.val / 128 = i.val / 64 by omega]
  rfl

theorem wHi_at (Q : IVec S2560x17920 8) (S : FVec Ideal S40x17920 .bf16) (Z : IVec S20x17920 8) (i : Fin 2560) (n : Fin 17920) :
    wHi Q S Z (ix2 i n) = wgt Q S Z n (2 * i.val + 1) := by
  have hi := i.isLt
  have e : wHi Q S Z (ix2 i n) = (FloatOps.sitofp (F := Ideal) .bf16 (IntOp.shrsi .host (BitVec.setWidth 32 (Q (ix2 i n))) 4#32) - zeros Z (ix2 ⟨i.val / 64, by omega⟩ n)) * S (ix2 ⟨i.val / 64, by omega⟩ n) := by
    unfold wHi
    pointwise
  rw [e, zeros_at]
  show ((((IntOp.shrsi .host (BitVec.setWidth 32 (Q (ix2 i n))) 4#32).toInt : ℝ) : EReal) - _) * _ = _
  rw [nib_host]
  unfold wgt
  rw [dif_pos (show 2 * i.val + 1 < 5120 by omega)]
  simp only [show (2 * i.val + 1) / 2 = i.val by omega, show (2 * i.val + 1) % 2 = 1 by omega, show (2 * i.val + 1) / 128 = i.val / 64 by omega]
  rfl

theorem dot_at (x : FVec Ideal S8x1x2560 .bf16) (w : FVec Ideal S2560x17920 .bf16) (b : Fin 8) (n : Fin 17920) :
    (Host.dotGeneral dot_S8x1x2560_S2560x17920_S8x1x17920_2_0_01_1_n_n none x w : FVec Ideal S8x1x17920 .f32) (ix3 b 0 n) = ∑ i : Fin 2560, x (ix3 b 0 i) * w (ix2 i n) := by
  pointwise [dot_S8x1x2560_S2560x17920_S8x1x17920_2_0_01_1_n_n]

theorem gather_at (x : FVec Ideal S8x1x5120 .bf16) (idx : IVec S5120x1 32) (b : Fin 8) (j : Fin 5120) :
    Host.gather gather_S8x1x5120_S5120x1_S8x1x5120_01_2_n_n_2_1_811 x idx (ix3 b 0 j) = x (ix3 b 0 ⟨min (idx (ix2 j 0)).toInt.toNat 5119, by omega⟩) := by
  unfold Host.gather
  refine congrArg x (funext fun a => Fin.ext ?_)
  set d := gather_S8x1x5120_S5120x1_S8x1x5120_01_2_n_n_2_1_811 with hd
  have hbN : ∀ a', a' ∉ d.operandBatchingDims := fun a' => List.not_mem_nil
  have hbd : d.batchDims = [(2 : Fin 3)] := by decide
  have e0 : ∀ X : Fin 3, X = 0 → ((ix3 b 0 j : S8x1x5120.Idx) X).val = b.val := fun X h => by subst h; rfl
  have e1 : ∀ X : Fin 3, X = 1 → ((ix3 b 0 j : S8x1x5120.Idx) X).val = 0 := fun X h => by subst h; rfl
  have e2 : ∀ X : Fin 3, X = 2 → ((ix3 b 0 j : S8x1x5120.Idx) X).val = j.val := fun X h => by subst h; rfl
  match a with
  | ⟨0, _⟩ =>
    have hk : (0 : Fin 3) ∈ d.sKept := by decide
    have hm : (0 : Fin 3) ∉ d.startIndexMap := by decide
    show d.start (ix3 b 0 j) idx 0 + d.batchCoord (ix3 b 0 j) 0 + d.offCoord (ix3 b 0 j) 0 = b.val
    rw [d.batchCoord_eq_zero _ _ (hbN 0), Nat.add_zero]
    unfold GatherDims.start GatherDims.offCoord
    rw [dif_neg hm, dif_pos hk, Nat.zero_add]
    exact e0 _ rfl
  | ⟨1, _⟩ =>
    have hk : (1 : Fin 3) ∈ d.sKept := by decide
    have hm : (1 : Fin 3) ∉ d.startIndexMap := by decide
    show d.start (ix3 b 0 j) idx 1 + d.batchCoord (ix3 b 0 j) 1 + d.offCoord (ix3 b 0 j) 1 = 0
    rw [d.batchCoord_eq_zero _ _ (hbN 1), Nat.add_zero]
    unfold GatherDims.start GatherDims.offCoord
    rw [dif_neg hm, dif_pos hk, Nat.zero_add]
    exact e1 _ rfl
  | ⟨2, _⟩ =>
    have hk : (2 : Fin 3) ∉ d.sKept := by decide
    have hm : (2 : Fin 3) ∈ d.startIndexMap := by decide
    show d.start (ix3 b 0 j) idx 2 + d.batchCoord (ix3 b 0 j) 2 + d.offCoord (ix3 b 0 j) 2 = min (idx (ix2 j 0)).toInt.toNat 5119
    rw [d.batchCoord_eq_zero _ _ (hbN 2), d.offCoord_eq_zero _ _ hk]
    simp only [Nat.add_zero]
    unfold GatherDims.start
    rw [dif_pos hm]
    have hsi : d.siIdx (ix3 b 0 j) ⟨d.startIndexMap.idxOf 2, List.idxOf_lt_length_iff.2 hm⟩ = ix2 j (0 : Fin 1) := by
      funext b'
      apply Fin.ext
      match b' with
      | ⟨0, _⟩ =>
        unfold GatherDims.siIdx
        refine (congrArg Fin.val (dif_neg (show ¬ (0 : ℕ) = 1 by decide))).trans ?_
        unfold GatherDims.siCoord
        simp only [Fin.val_cast]
        exact e2 _ rfl
      | ⟨1, _⟩ =>
        unfold GatherDims.siIdx
        refine (congrArg Fin.val (dif_pos (show (1 : ℕ) = 1 from rfl))).trans ?_
        rfl
    rw [hsi]
    rfl

/-! ### The permuted activations and the result -/

theorem xPerm_at (x : FVec Ideal S8x1x5120 .bf16) (p : IVec S5120 32) (hp : ∀ i, 0 ≤ (p i).toInt ∧ (p i).toInt < 5120) (b : Fin 8) (j : Fin 5120) :
    xPerm x p (ix3 b 0 j) = permuted x p (ix2 b j) := by
  have h := hp (ix1 j)
  unfold xPerm
  rw [gather_at]
  have e : (broadcastInDim S5120x1 ![0] bcast_S5120_S5120x1_0 (select (cmpi .slt p (broadcastInDim S5120 ![] bcast_S_S5120 (constantI S_ 32 0#32))) (addi p (broadcastInDim S5120 ![] bcast_S_S5120 (constantI S_ 32 5120#32))) p)) (ix2 j 0) = p (ix1 j) := by
    have hs : IntOp.cmpi .slt (p (ix1 j)) 0#32 = 0#1 := by
      have hn : ¬ IntOp.cmpi .slt (p (ix1 j)) 0#32 = 1#1 := fun hh => by
        have := IntOp.cmpi_slt.1 hh
        have z : (0#32 : BitVec 32).toInt = 0 := rfl
        omega
      revert hn
      generalize IntOp.cmpi .slt (p (ix1 j)) 0#32 = w
      revert w; decide
    pointwise
    rw [hs]; rfl
  refine congrArg x (congrArg (ix3 b 0) (Fin.ext ?_))
  refine (congrArg (fun w : BitVec 32 => min w.toInt.toNat 5119) e).trans ?_
  show min (p (ix1 j)).toInt.toNat 5119 = min (p (ix1 j)).toNat 5119
  have : (p (ix1 j)).toInt = ((p (ix1 j)).toNat : ℤ) := by
    rw [BitVec.toInt_eq_toNat_cond] at h ⊢
    have := (p (ix1 j)).isLt
    split at h <;> rename_i hc
    · rw [if_pos hc]
    · omega
  rw [this]; rfl

theorem sum_even_odd (f : ℕ → EReal) (N : ℕ) : ∑ m ∈ Finset.range (2 * N), f m = ∑ i ∈ Finset.range N, f (2 * i) + ∑ i ∈ Finset.range N, f (2 * i + 1) := by
  induction N with
  | zero => simp
  | succ N ih =>
    rw [show 2 * (N + 1) = 2 * N + 1 + 1 by omega, Finset.sum_range_succ, Finset.sum_range_succ, ih, Finset.sum_range_succ (fun i => f (2 * i)), Finset.sum_range_succ (fun i => f (2 * i + 1))]
    rw [add_assoc, add_add_add_comm]

/-- The reference's result at row `b`, column `n`: one sum over the contraction axis. -/
theorem res_at (x : FVec Ideal S8x1x5120 .bf16) (Q : IVec S2560x17920 8) (S : FVec Ideal S40x17920 .bf16) (Z : IVec S20x17920 8) (p : IVec S5120 32)
    (hp : ∀ i, 0 ≤ (p i).toInt ∧ (p i).toInt < 5120) (b : Fin 8) (n : Fin 17920) :
    res x Q S Z p (ix2 b n) = ∑ m ∈ Finset.range 5120, act (permuted x p) b m * wgt Q S Z n m := by
  have e : res x Q S Z p (ix2 b n) = ∑ i : Fin 2560, xPerm x p (ix3 b 0 ⟨2 * i.val, by omega⟩) * wLo Q S Z (ix2 i n)
      + ∑ i : Fin 2560, xPerm x p (ix3 b 0 ⟨1 + 2 * i.val, by omega⟩) * wHi Q S Z (ix2 i n) := by
    unfold res
    pointwise
  refine e.trans (Eq.trans ?_ (sum_even_odd (fun m => act (permuted x p) b m * wgt Q S Z n m) 2560).symm)
  rw [Finset.sum_range, Finset.sum_range]
  congr 1
  · refine Finset.sum_congr rfl fun i _ => ?_
    rw [xPerm_at x p hp, wLo_at]
    unfold act
    rw [dif_pos (show 2 * i.val < 5120 by have := i.isLt; omega)]
  · refine Finset.sum_congr rfl fun i _ => ?_
    rw [xPerm_at x p hp, wHi_at]
    unfold act
    rw [dif_pos (show 2 * i.val + 1 < 5120 by have := i.isLt; omega)]
    simp only [Nat.add_comm 1 (2 * i.val)]

end Cert.ReferenceIdeal.Val

end
-- ==== Proof.lean ====
/-
  The proof — hand-written, untrusted — of this directory's certificate (Defs.lean).

  The two kernels' runs are Proof/KernelLaunch.lean and Proof/KernelIdealLaunch.lean (the body in Proof/…Body.lean over
  the slots' ring in Proof/…Slots.lean and one chunk's trip in Proof/…Trip.lean); the reference's run is generated. The
  idealized kernel's result element by element is Proof/KernelIdealResult.lean, the reference's Proof/ReferenceValue.lean.
-/
module

public import proofs.«01_k».proof.Defs
public import proofs.«01_k».proof.Proof.Gen.ReferenceIdeal.Run
public import proofs.«01_k».proof.Proof.KernelLaunch
public import proofs.«01_k».proof.Proof.KernelIdealLaunch
public import proofs.«01_k».proof.Proof.KernelIdealResult
public import proofs.«01_k».proof.Proof.ReferenceValue
public import Idealize.ShloMosaic.Lib.ReduceAll
public import Idealize.ShloMosaic.Lib.Bf16PairInverse
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Hand.frame m ρ
theorem frame_pi : Cert.quiescent_KernelIdeal := fun m ρ _ => Cert.KernelIdeal.Hand.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger's nine statements, in order of first appearance. -/
theorem preserves : Cert.preserves_Kernel_KernelIdeal :=
  open Cert.KernelIdeal IdealRules.bf16_pair in
  ⟨bufferStatement S40x2x512 S40x1x512, packStatement S40x512, statement S40x2x512 S40x1x512, packStatement S20x512,
    statement S20x2x512 S20x1x512, packStatement S64x256, statement S128x256 S64x256, statement S1x2x256 S1x1x256,
    statement S2x256 S1x256⟩

/-! ## The value claim -/

/-- The precondition's side conditions. -/
instance facts_pre : Cert.Pre_perm_in_range.Facts where
  bcast_S_S5120 := Cert.ReferenceIdeal.Gen.bcast_S_S5120
  reducesTo_S5120_S_d0 := by decide
  h_S_ := by decide

/-- What the precondition says of each word of the permutation. -/
theorem pre_at (m : (ℓ : Loc Cert.KernelIdeal.nD Cert.KernelIdeal.τ Cert.KernelIdeal.sig) → Buf (Elt Ideal) ℓ)
    (h : Cert.Pre_KernelIdeal_perm_in_range m) (c : Dev Cert.KernelIdeal.nD) (i : (⟨1, ![5120]⟩ : Shape).Idx) :
    0 ≤ (Cert.KernelIdeal.Val.argP m c i).toInt ∧ (Cert.KernelIdeal.Val.argP m c i).toInt < 5120 := by
  have : Subsingleton Cert.Pre_perm_in_range.S_.Idx := ⟨fun a b => funext fun k => k.elim0⟩
  have e := Host.reduce_andi_all _ _ _ _ (fun k => k.elim0) (congrFun (h c) (fun k => k.elim0)) i
  have e' : IntOp.andi (IntOp.cmpi .sge (Cert.KernelIdeal.Val.argP m c i) 0#32) (IntOp.cmpi .slt (Cert.KernelIdeal.Val.argP m c i) 5120#32) = 1#1 := e
  have e2 : ∀ a b : BitVec 1, IntOp.andi a b = 1#1 → a = 1#1 ∧ b = 1#1 := by decide
  obtain ⟨h1, h2⟩ := e2 _ _ e'
  exact ⟨IntOp.cmpi_sge.1 h1, IntOp.cmpi_slt.1 h2⟩

theorem pre_nat (m : (ℓ : Loc Cert.KernelIdeal.nD Cert.KernelIdeal.τ Cert.KernelIdeal.sig) → Buf (Elt Ideal) ℓ)
    (h : Cert.Pre_KernelIdeal_perm_in_range m) (c : Dev Cert.KernelIdeal.nD) (i : (⟨1, ![5120]⟩ : Shape).Idx) :
    (Cert.KernelIdeal.Val.argP m c i).toNat < 5120 := by
  have h := pre_at m h c i
  have hw := (Cert.KernelIdeal.Val.argP m c i).isLt
  rw [BitVec.toInt_eq_toNat_cond] at h
  split at h <;> omega

theorem frame_pi_pre : Cert.quiescent_KernelIdeal_pre_perm_in_range := fun m ρ _ => frame_pi m ρ trivial
theorem frame_ri_pre : Cert.quiescent_ReferenceIdeal_pre_perm_in_range := fun m ρ _ => frame_ri m ρ trivial

/-- The reference's result is the kernel's. -/
theorem value (m : (ℓ : Loc Cert.KernelIdeal.nD Cert.KernelIdeal.τ Cert.KernelIdeal.sig) → Buf (Elt Ideal) ℓ)
    (h : Cert.Pre_KernelIdeal_perm_in_range m) (c : Dev Cert.KernelIdeal.nD) :
    Cert.ReferenceIdeal.Val.res (Cert.KernelIdeal.Val.argX m c) (Cert.KernelIdeal.Val.argQ m c) (Cert.KernelIdeal.Val.argS m c)
      (Cert.KernelIdeal.Val.argZ m c) (Cert.KernelIdeal.Val.argP m c) = Cert.KernelIdeal.Val.result m c := by
  refine funext fun i : (⟨2, ![8, 17920]⟩ : Shape).Idx => ?_
  have hi : i = ix2 (n0 := 8) (n1 := 17920) (i 0) (i 1) := by funext a; match a with | ⟨0, _⟩ => rfl | ⟨1, _⟩ => rfl
  rw [hi]
  exact Cert.ReferenceIdeal.Val.res_at _ _ _ _ _ (pre_at m h c) (i 0) (i 1)

theorem algebraic : Cert.algebraic_KernelIdeal_ReferenceIdeal_pre_perm_in_range := fun m g m' g' hpre hag =>
  ⟨Cert.KernelIdeal.Val.result m, Cert.KernelIdeal.Val.run m g (pre_nat m hpre),
    (θ_run Cert.ReferenceIdeal.defs _ _).mono (fun r h c => ⟨(h c).1.trans (by
      obtain ⟨h0, h1, h2, h3, h4, h5⟩ := hag c
      rw [h0, h1, h2, h3, h5]
      exact value m hpre c), (h c).2⟩) (Cert.ReferenceIdeal.Value.run (F := Ideal) m' g')⟩

theorem claim : Cert.Claim :=
  ⟨Cert.Kernel.Gen.facts, Cert.KernelIdeal.Gen.facts, Cert.ReferenceIdeal.Gen.facts, facts_pre, frame_p, frame_pi, frame_pi_pre, frame_ri,
    frame_ri_pre, preserves, algebraic⟩

end Cert.Proof

end
